-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 8192]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x8192 : Shape := ⟨2, ![4096, 8192]⟩
abbrev S4096x256 : Shape := ⟨2, ![4096, 256]⟩
abbrev S256x4096 : Shape := ⟨2, ![256, 4096]⟩
abbrev S8x4096x256 : Shape := ⟨3, ![8, 4096, 256]⟩
abbrev S8x256x256 : Shape := ⟨3, ![8, 256, 256]⟩
abbrev S8 : Shape := ⟨1, ![8]⟩
abbrev S2 : Shape := ⟨1, ![2]⟩
abbrev S16 : Shape := ⟨1, ![16]⟩
abbrev S1 : Shape := ⟨1, ![1]⟩
abbrev S_ : Shape := ⟨0, ![]⟩
abbrev S1x4096x256 : Shape := ⟨3, ![1, 4096, 256]⟩
abbrev S256x256 : Shape := ⟨2, ![256, 256]⟩
abbrev S1x256x256 : Shape := ⟨3, ![1, 256, 256]⟩

abbrev nBuf : Space → Nat
  | .hbm => 3
  | .vmem => 5
  | .smem => 0
  | _ => 0

abbrev bufTy : (tb : Table) → Fin (tcTables nBuf tb) → BufTy
  | .hbm, ⟨0, _⟩ => ⟨S128x4096, .bf16⟩
  | .hbm, ⟨1, _⟩ => ⟨S4096x8192, .f32⟩
  | .hbm, ⟨2, _⟩ => ⟨S4096x256, .bf16⟩
  | .local _ .vmem, ⟨0, _⟩ => ⟨S128x4096, .bf16⟩
  | .local _ .vmem, ⟨1, _⟩ => ⟨S4096x256, .bf16⟩
  | .local _ .vmem, ⟨2, _⟩ => ⟨S256x4096, .bf16⟩
  | .local _ .vmem, ⟨3, _⟩ => ⟨S8x4096x256, .f32⟩
  | .local _ .vmem, ⟨4, _⟩ => ⟨S8x256x256, .bf16⟩
  | _, _ => ⟨S128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let c128_i32_9 : BitVec 32 := 128#32
  let v29 : BitVec 32 := Scalar.muli v3 c128_i32_9
  let v30 : Index := Scalar.indexCast v29
  let c0_10 : Index := 0#32
  ![v30.toNat, 0]
def k0_off2 (d0 : Dev nD) (c0_i32_11 : BitVec 32) : Fin 2 → Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v34 : BitVec 32 := Scalar.addi v2 c0_i32_11
  let c32_i32_12 : BitVec 32 := 32#32
  let v35 : BitVec 32 := Scalar.remsi v34 c32_i32_12
  let c256_i32 : BitVec 32 := 256#32
  let v36 : BitVec 32 := Scalar.muli v35 c256_i32
  ![0, v36.toNat]
def k0_dev1 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c2_i32_1 : BitVec 32 := 2#32
  let c2_i32 : BitVec 32 := 2#32
  let v3 : BitVec 32 := Scalar.remsi v2 c2_i32
  let v5 : BitVec 32 := Scalar.muli c2_i32_1 v3
  let v6 : BitVec 32 := Scalar.subi v4 v5
  let c1_i32_66 : BitVec 32 := 1#32
  let v99 : BitVec 32 := Scalar.muli v6 c1_i32_66
  let v100 : BitVec 32 := Scalar.addi c0_i32_67 v99
  v100.toNat
def k0_dev2 (d0 : Dev nD) : Nat :=
  let c0_i32_72 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_68 : BitVec 32 := 2#32
  let v101 : BitVec 32 := Scalar.addi v2 c2_i32_68
  let c32_i32_69 : BitVec 32 := 32#32
  let v102 : BitVec 32 := Scalar.remsi v101 c32_i32_69
  let c1_i32_71 : BitVec 32 := 1#32
  let v103 : BitVec 32 := Scalar.muli v102 c1_i32_71
  let v104 : BitVec 32 := Scalar.addi c0_i32_72 v103
  v104.toNat
def k0_dev3 (d0 : Dev nD) : Nat :=
  let c0_i32_77 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_73 : BitVec 32 := 4#32
  let v105 : BitVec 32 := Scalar.addi v2 c4_i32_73
  let c32_i32_74 : BitVec 32 := 32#32
  let v106 : BitVec 32 := Scalar.remsi v105 c32_i32_74
  let c1_i32_76 : BitVec 32 := 1#32
  let v107 : BitVec 32 := Scalar.muli v106 c1_i32_76
  let v108 : BitVec 32 := Scalar.addi c0_i32_77 v107
  v108.toNat
def k0_dev4 (d0 : Dev nD) : Nat :=
  let c0_i32_82 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_78 : BitVec 32 := 6#32
  let v109 : BitVec 32 := Scalar.addi v2 c6_i32_78
  let c32_i32_79 : BitVec 32 := 32#32
  let v110 : BitVec 32 := Scalar.remsi v109 c32_i32_79
  let c1_i32_81 : BitVec 32 := 1#32
  let v111 : BitVec 32 := Scalar.muli v110 c1_i32_81
  let v112 : BitVec 32 := Scalar.addi c0_i32_82 v111
  v112.toNat
def k0_dev5 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_83 : BitVec 32 := 8#32
  let v113 : BitVec 32 := Scalar.addi v2 c8_i32_83
  let c32_i32_84 : BitVec 32 := 32#32
  let v114 : BitVec 32 := Scalar.remsi v113 c32_i32_84
  let c1_i32_86 : BitVec 32 := 1#32
  let v115 : BitVec 32 := Scalar.muli v114 c1_i32_86
  let v116 : BitVec 32 := Scalar.addi c0_i32_87 v115
  v116.toNat
def k0_dev6 (d0 : Dev nD) : Nat :=
  let c0_i32_92 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_88 : BitVec 32 := 10#32
  let v117 : BitVec 32 := Scalar.addi v2 c10_i32_88
  let c32_i32_89 : BitVec 32 := 32#32
  let v118 : BitVec 32 := Scalar.remsi v117 c32_i32_89
  let c1_i32_91 : BitVec 32 := 1#32
  let v119 : BitVec 32 := Scalar.muli v118 c1_i32_91
  let v120 : BitVec 32 := Scalar.addi c0_i32_92 v119
  v120.toNat
def k0_dev7 (d0 : Dev nD) : Nat :=
  let c0_i32_97 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_93 : BitVec 32 := 12#32
  let v121 : BitVec 32 := Scalar.addi v2 c12_i32_93
  let c32_i32_94 : BitVec 32 := 32#32
  let v122 : BitVec 32 := Scalar.remsi v121 c32_i32_94
  let c1_i32_96 : BitVec 32 := 1#32
  let v123 : BitVec 32 := Scalar.muli v122 c1_i32_96
  let v124 : BitVec 32 := Scalar.addi c0_i32_97 v123
  v124.toNat
def k0_dev8 (d0 : Dev nD) : Nat :=
  let c0_i32_102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_98 : BitVec 32 := 14#32
  let v125 : BitVec 32 := Scalar.addi v2 c14_i32_98
  let c32_i32_99 : BitVec 32 := 32#32
  let v126 : BitVec 32 := Scalar.remsi v125 c32_i32_99
  let c1_i32_101 : BitVec 32 := 1#32
  let v127 : BitVec 32 := Scalar.muli v126 c1_i32_101
  let v128 : BitVec 32 := Scalar.addi c0_i32_102 v127
  v128.toNat
def k0_dev9 (d0 : Dev nD) : Nat :=
  let c0_i32_106 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v129 : BitVec 32 := Scalar.addi v2 c16_i32
  let c32_i32_103 : BitVec 32 := 32#32
  let v130 : BitVec 32 := Scalar.remsi v129 c32_i32_103
  let c1_i32_105 : BitVec 32 := 1#32
  let v131 : BitVec 32 := Scalar.muli v130 c1_i32_105
  let v132 : BitVec 32 := Scalar.addi c0_i32_106 v131
  v132.toNat
def k0_dev10 (d0 : Dev nD) : Nat :=
  let c0_i32_110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v133 : BitVec 32 := Scalar.addi v2 c18_i32
  let c32_i32_107 : BitVec 32 := 32#32
  let v134 : BitVec 32 := Scalar.remsi v133 c32_i32_107
  let c1_i32_109 : BitVec 32 := 1#32
  let v135 : BitVec 32 := Scalar.muli v134 c1_i32_109
  let v136 : BitVec 32 := Scalar.addi c0_i32_110 v135
  v136.toNat
def k0_dev11 (d0 : Dev nD) : Nat :=
  let c0_i32_114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v137 : BitVec 32 := Scalar.addi v2 c20_i32
  let c32_i32_111 : BitVec 32 := 32#32
  let v138 : BitVec 32 := Scalar.remsi v137 c32_i32_111
  let c1_i32_113 : BitVec 32 := 1#32
  let v139 : BitVec 32 := Scalar.muli v138 c1_i32_113
  let v140 : BitVec 32 := Scalar.addi c0_i32_114 v139
  v140.toNat
def k0_dev12 (d0 : Dev nD) : Nat :=
  let c0_i32_118 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v141 : BitVec 32 := Scalar.addi v2 c22_i32
  let c32_i32_115 : BitVec 32 := 32#32
  let v142 : BitVec 32 := Scalar.remsi v141 c32_i32_115
  let c1_i32_117 : BitVec 32 := 1#32
  let v143 : BitVec 32 := Scalar.muli v142 c1_i32_117
  let v144 : BitVec 32 := Scalar.addi c0_i32_118 v143
  v144.toNat
def k0_dev13 (d0 : Dev nD) : Nat :=
  let c0_i32_122 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v145 : BitVec 32 := Scalar.addi v2 c24_i32
  let c32_i32_119 : BitVec 32 := 32#32
  let v146 : BitVec 32 := Scalar.remsi v145 c32_i32_119
  let c1_i32_121 : BitVec 32 := 1#32
  let v147 : BitVec 32 := Scalar.muli v146 c1_i32_121
  let v148 : BitVec 32 := Scalar.addi c0_i32_122 v147
  v148.toNat
def k0_dev14 (d0 : Dev nD) : Nat :=
  let c0_i32_126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v149 : BitVec 32 := Scalar.addi v2 c26_i32
  let c32_i32_123 : BitVec 32 := 32#32
  let v150 : BitVec 32 := Scalar.remsi v149 c32_i32_123
  let c1_i32_125 : BitVec 32 := 1#32
  let v151 : BitVec 32 := Scalar.muli v150 c1_i32_125
  let v152 : BitVec 32 := Scalar.addi c0_i32_126 v151
  v152.toNat
def k0_dev15 (d0 : Dev nD) : Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v153 : BitVec 32 := Scalar.addi v2 c28_i32
  let c32_i32_127 : BitVec 32 := 32#32
  let v154 : BitVec 32 := Scalar.remsi v153 c32_i32_127
  let c1_i32_129 : BitVec 32 := 1#32
  let v155 : BitVec 32 := Scalar.muli v154 c1_i32_129
  let v156 : BitVec 32 := Scalar.addi c0_i32_130 v155
  v156.toNat
def k0_dev16 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v157 : BitVec 32 := Scalar.addi v2 c30_i32
  let c32_i32_131 : BitVec 32 := 32#32
  let v158 : BitVec 32 := Scalar.remsi v157 c32_i32_131
  let c1_i32_133 : BitVec 32 := 1#32
  let v159 : BitVec 32 := Scalar.muli v158 c1_i32_133
  let v160 : BitVec 32 := Scalar.addi c0_i32_134 v159
  v160.toNat
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let c128_i32_137 : BitVec 32 := 128#32
  let v162 : BitVec 32 := Scalar.muli v3 c128_i32_137
  let c0_i32_142 : BitVec 32 := 0#32
  ![v162.toNat, 0]
def k0_dev17 (d0 : Dev nD) : Nat :=
  let c0_i32_141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c2_i32_1 : BitVec 32 := 2#32
  let c2_i32 : BitVec 32 := 2#32
  let v3 : BitVec 32 := Scalar.remsi v2 c2_i32
  let v5 : BitVec 32 := Scalar.muli c2_i32_1 v3
  let v6 : BitVec 32 := Scalar.subi v4 v5
  let c1_i32_140 : BitVec 32 := 1#32
  let v163 : BitVec 32 := Scalar.muli v6 c1_i32_140
  let v164 : BitVec 32 := Scalar.addi c0_i32_141 v163
  v164.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v25 : BitVec 32 := Scalar.subi v2 v3
  let c128_i32 : BitVec 32 := 128#32
  let v26 : BitVec 32 := Scalar.muli v25 c128_i32
  let v193 : Index := Scalar.indexCast v26
  let c0_164 : Index := 0#32
  ![v193.toNat, 0]
def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c2_i32_2 : BitVec 32 := 2#32
  let c0_i32_4 : BitVec 32 := 0#32
  let v14 : BitVec 1 := Scalar.cmpi .sgt c2_i32_2 c0_i32_4
  let v15 : BitVec 32 := Scalar.extui v14
  let c0_i32_5 : BitVec 32 := 0#32
  let v16 : BitVec 1 := Scalar.cmpi .slt c2_i32_2 c0_i32_5
  let v17 : BitVec 32 := Scalar.extui v16
  let v18 : BitVec 32 := Scalar.subi v15 v17
  let v19 : BitVec 1 := Scalar.cmpi .ne v13 v18
  let v20 : BitVec 32 := Scalar.remsi v7 c2_i32_2
  let c0_i32_6 : BitVec 32 := 0#32
  let v21 : BitVec 1 := Scalar.cmpi .ne v20 c0_i32_6
  let v22 : BitVec 1 := Scalar.andi v19 v21
  let v8 : BitVec 32 := Scalar.divsi v7 c2_i32_2
  let c1_i32_7 : BitVec 32 := 1#32
  let v23 : BitVec 32 := Scalar.subi v8 c1_i32_7
  let v24 : BitVec 32 := Scalar.select v22 v23 v8
  ![v24.toNat]
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v25 : BitVec 32 := Scalar.subi v2 v3
  let c128_i32 : BitVec 32 := 128#32
  let v26 : BitVec 32 := Scalar.muli v25 c128_i32
  let c0_i32_196 : BitVec 32 := 0#32
  ![v26.toNat, 0]
def k0_dev18 (d0 : Dev nD) : Nat :=
  let c0_i32_195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_173 : BitVec 32 := 2#32
  let v203 : BitVec 32 := Scalar.addi v2 c2_i32_173
  let c32_i32_174 : BitVec 32 := 32#32
  let v204 : BitVec 32 := Scalar.remsi v203 c32_i32_174
  let c1_i32_194 : BitVec 32 := 1#32
  let v224 : BitVec 32 := Scalar.muli v204 c1_i32_194
  let v225 : BitVec 32 := Scalar.addi c0_i32_195 v224
  v225.toNat
def k0_dev19 (d0 : Dev nD) : Nat :=
  let c0_i32_229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_207 : BitVec 32 := 4#32
  let v241 : BitVec 32 := Scalar.addi v2 c4_i32_207
  let c32_i32_208 : BitVec 32 := 32#32
  let v242 : BitVec 32 := Scalar.remsi v241 c32_i32_208
  let c1_i32_228 : BitVec 32 := 1#32
  let v262 : BitVec 32 := Scalar.muli v242 c1_i32_228
  let v263 : BitVec 32 := Scalar.addi c0_i32_229 v262
  v263.toNat
def k0_dev20 (d0 : Dev nD) : Nat :=
  let c0_i32_263 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_241 : BitVec 32 := 6#32
  let v279 : BitVec 32 := Scalar.addi v2 c6_i32_241
  let c32_i32_242 : BitVec 32 := 32#32
  let v280 : BitVec 32 := Scalar.remsi v279 c32_i32_242
  let c1_i32_262 : BitVec 32 := 1#32
  let v300 : BitVec 32 := Scalar.muli v280 c1_i32_262
  let v301 : BitVec 32 := Scalar.addi c0_i32_263 v300
  v301.toNat
def k0_dev21 (d0 : Dev nD) : Nat :=
  let c0_i32_297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_275 : BitVec 32 := 8#32
  let v317 : BitVec 32 := Scalar.addi v2 c8_i32_275
  let c32_i32_276 : BitVec 32 := 32#32
  let v318 : BitVec 32 := Scalar.remsi v317 c32_i32_276
  let c1_i32_296 : BitVec 32 := 1#32
  let v338 : BitVec 32 := Scalar.muli v318 c1_i32_296
  let v339 : BitVec 32 := Scalar.addi c0_i32_297 v338
  v339.toNat
def k0_dev22 (d0 : Dev nD) : Nat :=
  let c0_i32_331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_309 : BitVec 32 := 10#32
  let v355 : BitVec 32 := Scalar.addi v2 c10_i32_309
  let c32_i32_310 : BitVec 32 := 32#32
  let v356 : BitVec 32 := Scalar.remsi v355 c32_i32_310
  let c1_i32_330 : BitVec 32 := 1#32
  let v376 : BitVec 32 := Scalar.muli v356 c1_i32_330
  let v377 : BitVec 32 := Scalar.addi c0_i32_331 v376
  v377.toNat
def k0_dev23 (d0 : Dev nD) : Nat :=
  let c0_i32_365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_343 : BitVec 32 := 12#32
  let v393 : BitVec 32 := Scalar.addi v2 c12_i32_343
  let c32_i32_344 : BitVec 32 := 32#32
  let v394 : BitVec 32 := Scalar.remsi v393 c32_i32_344
  let c1_i32_364 : BitVec 32 := 1#32
  let v414 : BitVec 32 := Scalar.muli v394 c1_i32_364
  let v415 : BitVec 32 := Scalar.addi c0_i32_365 v414
  v415.toNat
def k0_dev24 (d0 : Dev nD) : Nat :=
  let c0_i32_399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_377 : BitVec 32 := 14#32
  let v431 : BitVec 32 := Scalar.addi v2 c14_i32_377
  let c32_i32_378 : BitVec 32 := 32#32
  let v432 : BitVec 32 := Scalar.remsi v431 c32_i32_378
  let c1_i32_398 : BitVec 32 := 1#32
  let v452 : BitVec 32 := Scalar.muli v432 c1_i32_398
  let v453 : BitVec 32 := Scalar.addi c0_i32_399 v452
  v453.toNat
def k0_dev25 (d0 : Dev nD) : Nat :=
  let c0_i32_434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_411 : BitVec 32 := 16#32
  let v469 : BitVec 32 := Scalar.addi v2 c16_i32_411
  let c32_i32_412 : BitVec 32 := 32#32
  let v470 : BitVec 32 := Scalar.remsi v469 c32_i32_412
  let c1_i32_433 : BitVec 32 := 1#32
  let v490 : BitVec 32 := Scalar.muli v470 c1_i32_433
  let v491 : BitVec 32 := Scalar.addi c0_i32_434 v490
  v491.toNat
def k0_dev26 (d0 : Dev nD) : Nat :=
  let c0_i32_467 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_438 : BitVec 32 := 18#32
  let v499 : BitVec 32 := Scalar.addi v2 c18_i32_438
  let c32_i32_439 : BitVec 32 := 32#32
  let v500 : BitVec 32 := Scalar.remsi v499 c32_i32_439
  let c1_i32_466 : BitVec 32 := 1#32
  let v525 : BitVec 32 := Scalar.muli v500 c1_i32_466
  let v526 : BitVec 32 := Scalar.addi c0_i32_467 v525
  v526.toNat
def k0_dev27 (d0 : Dev nD) : Nat :=
  let c0_i32_500 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_471 : BitVec 32 := 20#32
  let v534 : BitVec 32 := Scalar.addi v2 c20_i32_471
  let c32_i32_472 : BitVec 32 := 32#32
  let v535 : BitVec 32 := Scalar.remsi v534 c32_i32_472
  let c1_i32_499 : BitVec 32 := 1#32
  let v560 : BitVec 32 := Scalar.muli v535 c1_i32_499
  let v561 : BitVec 32 := Scalar.addi c0_i32_500 v560
  v561.toNat
def k0_dev28 (d0 : Dev nD) : Nat :=
  let c0_i32_533 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_504 : BitVec 32 := 22#32
  let v569 : BitVec 32 := Scalar.addi v2 c22_i32_504
  let c32_i32_505 : BitVec 32 := 32#32
  let v570 : BitVec 32 := Scalar.remsi v569 c32_i32_505
  let c1_i32_532 : BitVec 32 := 1#32
  let v595 : BitVec 32 := Scalar.muli v570 c1_i32_532
  let v596 : BitVec 32 := Scalar.addi c0_i32_533 v595
  v596.toNat
def k0_dev29 (d0 : Dev nD) : Nat :=
  let c0_i32_566 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_537 : BitVec 32 := 24#32
  let v604 : BitVec 32 := Scalar.addi v2 c24_i32_537
  let c32_i32_538 : BitVec 32 := 32#32
  let v605 : BitVec 32 := Scalar.remsi v604 c32_i32_538
  let c1_i32_565 : BitVec 32 := 1#32
  let v630 : BitVec 32 := Scalar.muli v605 c1_i32_565
  let v631 : BitVec 32 := Scalar.addi c0_i32_566 v630
  v631.toNat
def k0_dev30 (d0 : Dev nD) : Nat :=
  let c0_i32_599 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_570 : BitVec 32 := 26#32
  let v639 : BitVec 32 := Scalar.addi v2 c26_i32_570
  let c32_i32_571 : BitVec 32 := 32#32
  let v640 : BitVec 32 := Scalar.remsi v639 c32_i32_571
  let c1_i32_598 : BitVec 32 := 1#32
  let v665 : BitVec 32 := Scalar.muli v640 c1_i32_598
  let v666 : BitVec 32 := Scalar.addi c0_i32_599 v665
  v666.toNat
def k0_dev31 (d0 : Dev nD) : Nat :=
  let c0_i32_632 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_603 : BitVec 32 := 28#32
  let v674 : BitVec 32 := Scalar.addi v2 c28_i32_603
  let c32_i32_604 : BitVec 32 := 32#32
  let v675 : BitVec 32 := Scalar.remsi v674 c32_i32_604
  let c1_i32_631 : BitVec 32 := 1#32
  let v700 : BitVec 32 := Scalar.muli v675 c1_i32_631
  let v701 : BitVec 32 := Scalar.addi c0_i32_632 v700
  v701.toNat
def k0_dev32 (d0 : Dev nD) : Nat :=
  let c0_i32_665 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_636 : BitVec 32 := 30#32
  let v709 : BitVec 32 := Scalar.addi v2 c30_i32_636
  let c32_i32_637 : BitVec 32 := 32#32
  let v710 : BitVec 32 := Scalar.remsi v709 c32_i32_637
  let c1_i32_664 : BitVec 32 := 1#32
  let v735 : BitVec 32 := Scalar.muli v710 c1_i32_664
  let v736 : BitVec 32 := Scalar.addi c0_i32_665 v735
  v736.toNat
def k0_off7 (d0 : Dev nD) (c15_i32 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c2_i32_2 : BitVec 32 := 2#32
  let c0_i32_4 : BitVec 32 := 0#32
  let v14 : BitVec 1 := Scalar.cmpi .sgt c2_i32_2 c0_i32_4
  let v15 : BitVec 32 := Scalar.extui v14
  let c0_i32_5 : BitVec 32 := 0#32
  let v16 : BitVec 1 := Scalar.cmpi .slt c2_i32_2 c0_i32_5
  let v17 : BitVec 32 := Scalar.extui v16
  let v18 : BitVec 32 := Scalar.subi v15 v17
  let v19 : BitVec 1 := Scalar.cmpi .ne v13 v18
  let v20 : BitVec 32 := Scalar.remsi v7 c2_i32_2
  let c0_i32_6 : BitVec 32 := 0#32
  let v21 : BitVec 1 := Scalar.cmpi .ne v20 c0_i32_6
  let v22 : BitVec 1 := Scalar.andi v19 v21
  let v8 : BitVec 32 := Scalar.divsi v7 c2_i32_2
  let c1_i32_7 : BitVec 32 := 1#32
  let v23 : BitVec 32 := Scalar.subi v8 c1_i32_7
  let v24 : BitVec 32 := Scalar.select v22 v23 v8
  let v788 : BitVec 32 := Scalar.addi v24 c15_i32
  let c16_i32_722 : BitVec 32 := 16#32
  let v789 : BitVec 32 := Scalar.remsi v788 c16_i32_722
  ![v789.toNat]
def k0_off8 (d0 : Dev nD) (c15_i32 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v7 : BitVec 32 := Scalar.subi v2 v3
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c2_i32_2 : BitVec 32 := 2#32
  let c0_i32_4 : BitVec 32 := 0#32
  let v14 : BitVec 1 := Scalar.cmpi .sgt c2_i32_2 c0_i32_4
  let v15 : BitVec 32 := Scalar.extui v14
  let c0_i32_5 : BitVec 32 := 0#32
  let v16 : BitVec 1 := Scalar.cmpi .slt c2_i32_2 c0_i32_5
  let v17 : BitVec 32 := Scalar.extui v16
  let v18 : BitVec 32 := Scalar.subi v15 v17
  let v19 : BitVec 1 := Scalar.cmpi .ne v13 v18
  let v20 : BitVec 32 := Scalar.remsi v7 c2_i32_2
  let c0_i32_6 : BitVec 32 := 0#32
  let v21 : BitVec 1 := Scalar.cmpi .ne v20 c0_i32_6
  let v22 : BitVec 1 := Scalar.andi v19 v21
  let v8 : BitVec 32 := Scalar.divsi v7 c2_i32_2
  let c1_i32_7 : BitVec 32 := 1#32
  let v23 : BitVec 32 := Scalar.subi v8 c1_i32_7
  let v24 : BitVec 32 := Scalar.select v22 v23 v8
  let v788 : BitVec 32 := Scalar.addi v24 c15_i32
  let c16_i32_722 : BitVec 32 := 16#32
  let v789 : BitVec 32 := Scalar.remsi v788 c16_i32_722
  let c256_i32_723 : BitVec 32 := 256#32
  let v790 : BitVec 32 := Scalar.muli v789 c256_i32_723
  let c0_i32_728 : BitVec 32 := 0#32
  ![v790.toNat, 0]
abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .f32⟩
  | .hbm, ⟨2, _⟩ => ⟨S4096x4096, .f32⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S4096x8192, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Devices.lean ====
/-
The protocol of the all-to-all matmul: who signals and sends to whom, which semaphore completes which
transfer, and what each completion hands over.

A device `c` belongs to the pair `c / 2`; inside the pair the two devices differ in parity. Device `c` exchanges its
block of `x` with its partner, multiplies the pair's 256 rows by the columns of `w` that belong to each of the
16 devices of its own parity, and sends the 256 × 256 product to that device.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state -/

/-- The rounds' ghost state, duties named by `Fin 16`. -/
abbrev UB : Type := URounds (GSem nD τ sig) (Fin 16)
/-- It sits beside the copy the pipeline library uses. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Devices -/

set_option backward.proofsInPublic true in
/-- The other device of the pair. -/
def partner (c : Dev nD) : Dev nD := ⟨c.val + 1 - 2 * (c.val % 2), by have := c.isLt; simp only [nD] at *; omega⟩
set_option backward.proofsInPublic true in
/-- The device `t` pairs further on, of the same parity. -/
def peer (c : Dev nD) (t : Fin 16) : Dev nD := ⟨(c.val + 2 * t.val) % 32, Nat.mod_lt _ (by decide)⟩
set_option backward.proofsInPublic true in
/-- The pair a device belongs to. -/
def pairOf (c : Dev nD) : Fin 16 := ⟨c.val / 2, by have := c.isLt; simp only [nD] at this; omega⟩
/-- Whom the `q`-th barrier signal goes to. -/
def sigTo (c : Dev nD) (q : Fin 16) : Dev nD := if q = 0 then partner c else peer c q

/-- The partner's partner is the device itself. -/
theorem partner_partner (c : Dev nD) : partner (partner c) = c := by revert c; decide +kernel
/-- A device is not its own partner. -/
theorem partner_ne (c : Dev nD) : partner c ≠ c := by revert c; decide +kernel
/-- Partners are in the same pair. -/
theorem pairOf_partner (c : Dev nD) : pairOf (partner c) = pairOf c := by revert c; decide +kernel
/-- The peer at distance 0 is the device itself. -/
theorem peer_zero (c : Dev nD) : peer c 0 = c := by revert c; decide +kernel
/-- Going `t` pairs on and `t` pairs back leads to the device itself. -/
theorem peer_neg (c : Dev nD) (t : Fin 16) : peer (peer c t) (-t) = c := by revert c t; decide +kernel
/-- Going `t` pairs back and `t` pairs on leads to the device itself. -/
theorem neg_peer (c : Dev nD) (t : Fin 16) : peer (peer c (-t)) t = c := by revert c t; decide +kernel
/-- The peer at distance `t` has the device itself at distance `-t`. -/
theorem pairOf_peer (c : Dev nD) (t : Fin 16) : pairOf c - pairOf (peer c t) = -t := by revert c t; decide +kernel
/-- Who is sent signal `q` has the sender as its own target of signal `-q`. -/
theorem sigTo_inv (c : Dev nD) (q : Fin 16) : sigTo (sigTo c q) (-q) = c := by revert c q; decide +kernel
/-- Negating a number below 16 twice gives it back. -/
theorem neg_neg16 (q : Fin 16) : - -q = q := by revert q; decide +kernel
/-- Only zero has zero as its negative. -/
theorem neg_eq_zero_iff (q : Fin 16) : Iff (-q = 0) (q = 0) := by revert q; decide +kernel

end Cert.AllToAll

end
-- ==== Proof.Refs.lean ====
/-
The memrefs the kernel names, as windows, and its semaphores.
-/
module

public import proofs.«01_k».proof.Proof.Devices

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
/-! ## The memrefs -/

abbrev xM : Memref sig .tc .vmem S128x4096 .bf16 := Memref.whole cc0_stg0_0
abbrev wM : Memref sig .tc .hbm S4096x8192 .f32 := Memref.whole main_arg1
abbrev oM : Memref sig .tc .vmem S4096x256 .bf16 := Memref.whole cc0_stg1_0
abbrev xsM : Memref sig .tc .vmem S256x4096 .bf16 := Memref.whole cc0_scratch0
abbrev wrM : Memref sig .tc .vmem S8x4096x256 .f32 := Memref.whole cc0_scratch1
abbrev sbM : Memref sig .tc .vmem S8x256x256 .bf16 := Memref.whole cc0_scratch2

/-- The half of the pair's rows that device `c` contributes. -/
abbrev xsW (c : Dev nD) : Memref sig .tc .vmem S128x4096 .bf16 :=
  xsM.slice (Rect.unit (s := S256x4096) (k0_off3 c) S128x4096.size (k0_off3_inb c)) (fun _ => rfl)

set_option backward.proofsInPublic true in
/-- Each slot lies within the fetch ring. -/
theorem wSl_inb (s : Fin 8) : ∀ a, (![s.val, 0, 0] : Fin 3 → ℕ) a + S1x4096x256.size a ≤ S8x4096x256.size a := by revert s; decide +kernel
set_option backward.proofsInPublic true in
/-- Each slot lies within the send ring. -/
theorem sSl_inb (s : Fin 8) : ∀ a, (![s.val, 0, 0] : Fin 3 → ℕ) a + S1x256x256.size a ≤ S8x256x256.size a := by revert s; decide +kernel
set_option backward.proofsInPublic true in
/-- Each block of rows lies within the result. -/
theorem oW_inb (k : Fin 16) : ∀ a, (![256 * k.val, 0] : Fin 2 → ℕ) a + S256x256.size a ≤ S4096x256.size a := by revert k; decide +kernel

/-- Slot `s` of the ring of `w` blocks. -/
abbrev wSl (s : Fin 8) : Memref sig .tc .vmem S4096x256 .f32 :=
  (wrM.slice (Rect.unit (s := S8x4096x256) ![s.val, 0, 0] S1x4096x256.size (wSl_inb s)) (fun _ => rfl)).squeeze S4096x256 squeezes_S1x4096x256_S4096x256
/-- The columns of `w` that belong to `peer c t`. -/
abbrev wCol (c : Dev nD) (t : Fin 16) : Memref sig .tc .hbm S4096x256 .f32 :=
  wM.slice (Rect.unit (s := S4096x8192) (k0_off2 c (BitVec.ofNat 32 (2 * t.val))) S4096x256.size (k0_off2_inb c t)) (fun _ => rfl)
/-- Slot `s` of the ring of products being sent. -/
abbrev sSl (s : Fin 8) : Memref sig .tc .vmem S256x256 .bf16 :=
  (sbM.slice (Rect.unit (s := S8x256x256) ![s.val, 0, 0] S1x256x256.size (sSl_inb s)) (fun _ => rfl)).squeeze S256x256 squeezes_S1x256x256_S256x256
/-- The rows of the result that pair `k` computes. -/
abbrev oW (k : Fin 16) : Memref sig .tc .vmem S256x256 .bf16 :=
  oM.slice (Rect.unit (s := S4096x256) ![256 * k.val, 0] S256x256.size (oW_inb k)) (fun _ => rfl)

/-! ## The semaphores -/

abbrev barS : Sem sig := (SemArray.scalar (sig.barrier 0 rfl) : Sems sig S_).sem
abbrev wS (s : Fin 8) : DmaSem sig := ⟨2 + s.val, by have := s.isLt; show _ < 36; omega⟩
abbrev xsS : DmaSem sig := ⟨10, by decide⟩
abbrev xrS : DmaSem sig := ⟨11, by decide⟩
abbrev sndS (s : Fin 8) : DmaSem sig := ⟨12 + s.val, by have := s.isLt; show _ < 36; omega⟩
abbrev rcvS (k : Fin 16) : DmaSem sig := ⟨20 + k.val, by have := k.isLt; show _ < 36; omega⟩

/-- The kernel's own semaphores: eight for the `w` blocks, the two of the `x` exchange, eight for the sends, sixteen for
    the arrivals. -/
abbrev Own : Type := Fin 8 ⊕ (Fin 2 ⊕ (Fin 8 ⊕ Fin 16))
abbrev osem : Own → SemLoc sig
  | .inl s => .dma (wS s)
  | .inr (.inl i) => .dma (if i = 0 then xsS else xrS)
  | .inr (.inr (.inl s)) => .dma (sndS s)
  | .inr (.inr (.inr k)) => .dma (rcvS k)
/-- The barrier semaphore in front of them. -/
abbrev Cell : Type := Unit ⊕ Own
abbrev csem : Cell → SemLoc sig
  | .inl _ => .reg barS
  | .inr o => osem o
abbrev kcell (ck : Dev nD × Cell) : GSem nD τ sig := ((ck.1 : Thread nD τ), csem ck.2)

abbrev bar (c : Dev nD) : GSem nD τ sig := ((c : Thread nD τ), .reg barS)
abbrev wC (c : Dev nD) (s : Fin 8) : GSem nD τ sig := ((c : Thread nD τ), .dma (wS s))
abbrev xsC (c : Dev nD) : GSem nD τ sig := ((c : Thread nD τ), .dma xsS)
abbrev xrC (c : Dev nD) : GSem nD τ sig := ((c : Thread nD τ), .dma xrS)
abbrev sndC (c : Dev nD) (s : Fin 8) : GSem nD τ sig := ((c : Thread nD τ), .dma (sndS s))
abbrev rcvC (c : Dev nD) (k : Fin 16) : GSem nD τ sig := ((c : Thread nD τ), .dma (rcvS k))

/-- What a semaphore is for. -/
inductive Use where
  | bar | w (s : Fin 8) | xs | xr | snd (s : Fin 8) | rcv (k : Fin 16) | other
deriving DecidableEq

set_option backward.proofsInPublic true in
/-- Read off the semaphore's number. -/
def useOf : SemLoc sig → Use
  | .reg s => if s = barS then .bar else .other
  | .dma j =>
    if j.val < 2 then .other
    else if h : j.val < 10 then .w ⟨j.val - 2, by omega⟩
    else if j.val = 10 then .xs
    else if j.val = 11 then .xr
    else if h : j.val < 20 then .snd ⟨j.val - 12, by omega⟩
    else if h : j.val < 36 then .rcv ⟨j.val - 20, by omega⟩
    else .other

/-- The barrier semaphore's use. -/
theorem use_bar : useOf (.reg barS) = .bar := by decide +kernel
/-- The use of the semaphore of a slot of the fetch ring. -/
theorem use_w (s : Fin 8) : useOf (.dma (wS s)) = .w s := by revert s; decide +kernel
/-- The use of the semaphore on which the row copy's sending counts. -/
theorem use_xs : useOf (.dma xsS) = .xs := by decide +kernel
/-- The use of the semaphore on which the row copy's arrival counts. -/
theorem use_xr : useOf (.dma xrS) = .xr := by decide +kernel
/-- The use of the semaphore of a slot of the send ring. -/
theorem use_snd (s : Fin 8) : useOf (.dma (sndS s)) = .snd s := by revert s; decide +kernel
/-- The use of the arrival semaphore of a pair. -/
theorem use_rcv (k : Fin 16) : useOf (.dma (rcvS k)) = .rcv k := by revert k; decide +kernel

end Cert.AllToAll

end
-- ==== Proof.Credits.lean ====
/-
How many bytes' credit the completion of each kind of transfer gives.
-/
module

public import proofs.«01_k».proof.Proof.Refs

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
/-- What the completion of a transfer of half of the pair's rows adds to its semaphore. -/
def NX : ℕ := (xsW 0).view.dmaCredit
/-- The same of a block of `w`. -/
def NW : ℕ := (wSl 0).view.dmaCredit
/-- The same of a product. -/
def NO : ℕ := (oW 0).view.dmaCredit
/-- A copy of half the row buffer is worth at least one unit. -/
theorem NX_pos : 0 < NX := View.dmaCredit_pos _ (by decide)
/-- A fetch of a block of `w` is worth at least one unit. -/
theorem NW_pos : 0 < NW := View.dmaCredit_pos _ (by decide)
/-- A copy of a product is worth at least one unit. -/
theorem NO_pos : 0 < NO := View.dmaCredit_pos _ (by decide)
/-- Each slot of the send ring is worth `NO` units. -/
theorem NO_slot (s : Fin 8) : (sSl s).view.dmaCredit = NO := rfl
/-- Each block of rows of the result is worth `NO` units. -/
theorem NO_row (k : Fin 16) : (oW k).view.dmaCredit = NO := rfl
/-- A device's half of the row buffer is worth `NX` units. -/
theorem NX_half (c : Dev nD) : (xsW c).view.dmaCredit = NX := rfl
/-- Each slot of the fetch ring is worth `NW` units. -/
theorem NW_slot (s : Fin 8) : (wSl s).view.dmaCredit = NW := rfl

attribute [irreducible] NX NW NO

end Cert.AllToAll

end
-- ==== Proof.Contents.lean ====
/-
What the buffers hold.
-/
module

public import proofs.«01_k».proof.Proof.Refs
public import Idealize.ShloMosaic.Lib.ValueIdxCore

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-! ## Contents -/

variable (m : (ℓ : Loc nD τ sig) → Buf (Elt F) ℓ) (ρ : Dev nD → PrngReg)

/-- The memory at launch. -/
def s₀ : MemSt nD τ sig (Elt F) := ⟨m, fun _ => 0, ρ⟩

/-- The block of `x` device `c` is launched with. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s copy of `w`. -/
def wArr (c : Dev nD) : Buf (Elt F) ((wM : Memref sig .tc .hbm S4096x8192 .f32).view.loc (c : Thread nD τ)) := m ((c : Thread nD τ).loc main_arg1)

/-- The columns of `w` device `c` multiplies for `peer c t`. -/
def wBlk (c : Dev nD) (t : Fin 16) : S4096x256.Idx → Elt F .f32 := (wCol c t).view.read (Elt F) (wArr m c)

set_option backward.proofsInPublic true in
/-- The device whose rows lie at row `r` of the row buffer of device `c`'s pair. -/
def rowDev (c : Dev nD) (r : Fin 256) : Dev nD :=
  ⟨2 * (pairOf c).val + r.val / 128, by have := (pairOf c).isLt; have := r.isLt; show _ < 32; omega⟩

set_option backward.proofsInPublic true in
/-- The contents of the row buffer once both halves of device `c`'s pair are in it. -/
def xsAll (c : Dev nD) : Vec F S256x4096 .bf16 := fun i =>
  (xstg m ρ (rowDev c (i 0)) : Vec F S128x4096 .bf16) (ValueIdx.ix2 ⟨(i 0).val % 128, Nat.mod_lt _ (by decide)⟩ (i 1))

/-- Partners end up with the same row buffer. -/
theorem xsAll_partner (c : Dev nD) : xsAll m ρ (partner c) = xsAll m ρ c := by
  have h : rowDev (partner c) = rowDev c := funext fun r => Fin.ext (by simp only [rowDev, pairOf_partner])
  unfold xsAll; rw [h]

/-- The product of the pair's rows with a block of `w`, negative entries replaced by zero. -/
def dotY (x : Vec F S256x4096 .bf16) (w : FVec F S4096x256 .f32) : FVec F S256x256 .bf16 :=
  truncf .bf16 (maximumf (matmul dot_S256x4096_S4096x256_S256x256_1_0_0_1_n_n none x (truncf .bf16 w bitsLt_bf16_f32)
    (constant S256x256 .f32 0x00000000#32)) (broadcast S256x256 (Scalar.ofBits .f32 0x00000000#32))) bitsLt_bf16_f32

/-- The product device `c` sends to `peer c t`. -/
def yBlk (c : Dev nD) (t : Fin 16) : S256x256.Idx → Elt F .bf16 := dotY (xsAll m ρ c) (wBlk m c t)

set_option backward.proofsInPublic true in
/-- The result of device `c`: the rows of pair `k` hold what the device of `c`'s parity in that pair computed. -/
def outAt (c : Dev nD) : Vec F S4096x256 .bf16 := fun i =>
  yBlk m ρ (peer c (⟨(i 0).val / 256, by have : (i 0).val < 4096 := (i 0).isLt; omega⟩ - pairOf c))
    (-(⟨(i 0).val / 256, by have : (i 0).val < 4096 := (i 0).isLt; omega⟩ - pairOf c))
    (ValueIdx.ix2 ⟨(i 0).val % 256, Nat.mod_lt _ (by decide)⟩ (i 1))

/-- The elements of a window on device `c`, at some contents. -/
def anyOwn (c : Dev nD) {sp : Space} {sh : Shape} {e : EltTy} (w : Memref sig .tc sp sh e) : sProp 𝕄 :=
  iprop(∃ f, w.view.loc (c : Thread nD τ) ↦[w.view.set]{fullShare} f)

omit [FloatOps F] in
instance anyOwn_storable (c : Dev nD) {sp : Space} {sh : Shape} {e : EltTy} (w : Memref sig .tc sp sh e) :
    BI.Storable (upEmb : UEmb _ 𝕄) (anyOwn (F := F) c w) := by unfold anyOwn; infer_instance

/-- The elements of a window on device `c` at share `q`, the window reading `X`. -/
abbrev holds (c : Dev nD) {sp : Space} {sh : Shape} {e : EltTy} (w : Memref sig .tc sp sh e) (q : PosShare TreeShare) (X : sh.Idx → Elt F e) : sProp 𝕄 :=
  owns (c : Thread nD τ) w q X

end Cert.AllToAll

end
-- ==== Proof.Schedule.lean ====
/-
The schedule of the semaphores.
-/
module

public import proofs.«01_k».proof.Proof.Credits
public import proofs.«01_k».proof.Proof.Contents

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

/-! ## The schedule -/

/-- Which duties round `r` of device `c`'s semaphore has. -/
def dutyK (c : Dev nD) : Use → ℕ → Finset (Fin 16)
  | .bar, 0 => Finset.univ
  | .w _, 0 => {0}
  | .w _, 1 => {0}
  | .xs, 0 => {0}
  | .xr, 0 => {0}
  | .snd _, 0 => {0}
  | .snd s, 1 => if s = 0 then ∅ else {0}
  | .rcv k, 0 => if k = pairOf c then ∅ else {0}
  | _, _ => ∅
/-- What a duty pays. -/
def amtK : Use → ℕ
  | .bar => 1 | .w _ => NW | .xs => NX | .xr => NX | .snd _ => NO | .rcv _ => NO | .other => 1
/-- Every duty is worth at least one unit. -/
theorem amtK_pos : ∀ u, 0 < amtK u
  | .bar => Nat.one_pos | .w _ => NW_pos | .xs => NX_pos | .xr => NX_pos | .snd _ => NO_pos | .rcv _ => NO_pos | .other => Nat.one_pos
set_option backward.proofsInPublic true in
/-- The fetch that round `r` of slot `s` completes. -/
def roundIx (s : Fin 8) (r : ℕ) : Fin 16 := ⟨s.val + 8 * (r % 2), by have := s.isLt; omega⟩
/-- What a duty's completion hands over: the barrier's duty 0 the partner's half that `c` fills, its duty `t` the rows of
    `peer c t` that `c` fills; the other semaphores the window their transfer filled or had borrowed. -/
def payK (c : Dev nD) : Use → ℕ → Fin 16 → sProp 𝕄
  | .bar, _, d => if d = 0 then anyOwn (partner c) (xsW c) else anyOwn (peer c d) (oW (pairOf c))
  | .w s, r, _ => holds c (wSl s) fullShare (wBlk m c (roundIx s r))
  | .xs, _, _ => holds c (xsW c) fullShare.right (xstg m ρ c)
  | .xr, _, _ => holds c (xsW (partner c)) fullShare (xstg m ρ (partner c))
  | .snd s, _, _ => anyOwn c (sSl s)
  | .rcv k, _, _ => holds c (oW k) fullShare (yBlk m ρ (peer c (k - pairOf c)) (-(k - pairOf c)))
  | .other, _, _ => iprop(emp)

/-- The schedule of every semaphore of the mesh. -/
def Rd : Rounds.Schedule (GSem nD τ sig) (Fin 16) 𝕄 where
  duties g r := dutyK g.1.1 (useOf g.2) r
  unitless _ := False
  amount g _ _ := amtK (useOf g.2)
  payload g r d := payK m ρ g.1.1 (useOf g.2) r d
  amount_pos g _ _ _ := amtK_pos _

instance payK_storable (c : Dev nD) (u : Use) (r : ℕ) (d : Fin 16) : BI.Storable (upEmb : UEmb _ 𝕄) (payK m ρ c u r d) := by
  cases u <;> dsimp only [payK] <;> (try split) <;> infer_instance
instance Rd_storable (g : GSem nD τ sig) (r : ℕ) (d : Fin 16) : BI.Storable (upEmb : UEmb _ 𝕄) ((Rd m ρ).payload g r d) :=
  payK_storable m ρ g.1.1 (useOf g.2) r d

section Tables
variable (c : Dev nD)

/-- The barrier has one duty for each of the sixteen signals. -/
theorem duties_bar : (Rd m ρ).duties (bar c) 0 = Finset.univ := by show dutyK c (useOf (.reg barS)) 0 = _; rw [use_bar]; rfl
/-- A fetch semaphore has one duty in each of its two rounds. -/
theorem duties_w (s : Fin 8) (r : ℕ) (hr : r < 2) : (Rd m ρ).duties (wC c s) r = {0} := by
  show dutyK c (useOf (.dma (wS s))) r = _; rw [use_w]
  match r, hr with | 0, _ => rfl | 1, _ => rfl
/-- The row copy's sending is one duty. -/
theorem duties_xs : (Rd m ρ).duties (xsC c) 0 = {0} := by show dutyK c (useOf (.dma xsS)) 0 = _; rw [use_xs]; rfl
/-- The row copy's arrival is one duty. -/
theorem duties_xr : (Rd m ρ).duties (xrC c) 0 = {0} := by show dutyK c (useOf (.dma xrS)) 0 = _; rw [use_xr]; rfl
/-- A send semaphore has one duty in each of its two rounds, slot 0 in the first only. -/
theorem duties_snd (s : Fin 8) (r : ℕ) (hr : r < 2) (h : r = 0 ∨ s ≠ 0) : (Rd m ρ).duties (sndC c s) r = {0} := by
  show dutyK c (useOf (.dma (sndS s))) r = _; rw [use_snd]
  match r, hr with
  | 0, _ => rfl
  | 1, _ => exact if_neg (h.resolve_left Nat.one_ne_zero)
/-- The arrival semaphore of another pair has one duty. -/
theorem duties_rcv (k : Fin 16) (h : k ≠ pairOf c) : (Rd m ρ).duties (rcvC c k) 0 = {0} := by
  show dutyK c (useOf (.dma (rcvS k))) 0 = _; rw [use_rcv]; exact if_neg h

/-- A signal is worth one unit. -/
theorem amount_bar (r d) : (Rd m ρ).amount (bar c) r d = 1 := by show amtK (useOf (.reg barS)) = _; rw [use_bar]; rfl
/-- A fetch is worth `NW` units. -/
theorem amount_w (s : Fin 8) (r d) : (Rd m ρ).amount (wC c s) r d = NW := by show amtK (useOf (.dma (wS s))) = _; rw [use_w]; rfl
/-- The row copy's sending is worth `NX` units. -/
theorem amount_xs (r d) : (Rd m ρ).amount (xsC c) r d = NX := by show amtK (useOf (.dma xsS)) = _; rw [use_xs]; rfl
/-- The row copy's arrival is worth `NX` units. -/
theorem amount_xr (r d) : (Rd m ρ).amount (xrC c) r d = NX := by show amtK (useOf (.dma xrS)) = _; rw [use_xr]; rfl
/-- A product's sending is worth `NO` units. -/
theorem amount_snd (s : Fin 8) (r d) : (Rd m ρ).amount (sndC c s) r d = NO := by show amtK (useOf (.dma (sndS s))) = _; rw [use_snd]; rfl
/-- A product's arrival is worth `NO` units. -/
theorem amount_rcv (k : Fin 16) (r d) : (Rd m ρ).amount (rcvC c k) r d = NO := by show amtK (useOf (.dma (rcvS k))) = _; rw [use_rcv]; rfl

/-- A signal hands over the sender's window that the receiver is to write. -/
theorem payload_bar (r) (d : Fin 16) : (Rd m ρ).payload (bar c) r d = if d = 0 then anyOwn (partner c) (xsW c) else anyOwn (peer c d) (oW (pairOf c)) := by
  show payK m ρ c (useOf (.reg barS)) r d = _; rw [use_bar]; rfl
/-- A fetch hands over its slot, holding the block of `w`. -/
theorem payload_w (s : Fin 8) (r d) : (Rd m ρ).payload (wC c s) r d = holds c (wSl s) fullShare (wBlk m c (roundIx s r)) := by
  show payK m ρ c (useOf (.dma (wS s))) r d = _; rw [use_w]; rfl
/-- The row copy's sending gives back the lent half of the share of the device's rows. -/
theorem payload_xs (r d) : (Rd m ρ).payload (xsC c) r d = holds c (xsW c) fullShare.right (xstg m ρ c) := by
  show payK m ρ c (useOf (.dma xsS)) r d = _; rw [use_xs]; rfl
/-- The row copy's arrival hands over the partner's rows. -/
theorem payload_xr (r d) : (Rd m ρ).payload (xrC c) r d = holds c (xsW (partner c)) fullShare (xstg m ρ (partner c)) := by
  show payK m ρ c (useOf (.dma xrS)) r d = _; rw [use_xr]; rfl
/-- A product's sending gives back its slot. -/
theorem payload_snd (s : Fin 8) (r d) : (Rd m ρ).payload (sndC c s) r d = anyOwn c (sSl s) := by
  show payK m ρ c (useOf (.dma (sndS s))) r d = _; rw [use_snd]; rfl
/-- A product's arrival hands over the rows of the result, holding the product. -/
theorem payload_rcv (k : Fin 16) (r d) : (Rd m ρ).payload (rcvC c k) r d = holds c (oW k) fullShare (yBlk m ρ (peer c (k - pairOf c)) (-(k - pairOf c))) := by
  show payK m ρ c (useOf (.dma (rcvS k))) r d = _; rw [use_rcv]; rfl

/-- The barrier's round is complete with sixteen units. -/
theorem expect_bar : (Rd m ρ).expect (bar c) 0 = 16 := by
  unfold Schedule.expect Schedule.amountOf
  rw [duties_bar, Finset.sum_congr rfl fun d _ => amount_bar m ρ c 0 d, Finset.sum_const, Finset.card_univ, Fintype.card_fin, smul_eq_mul]
/-- A round of one duty asks for that duty's amount, and its rest is that duty's payload. -/
theorem expect_one {g : GSem nD τ sig} {r : ℕ} (h : (Rd m ρ).duties g r = {0}) : (Rd m ρ).expect g r = (Rd m ρ).amount g r 0 := by
  unfold Schedule.expect Schedule.amountOf; rw [h, Finset.sum_singleton]
/-- A round of one duty hands over that duty's payload. -/
theorem rest_one {g : GSem nD τ sig} {r : ℕ} (h : (Rd m ρ).duties g r = {0}) :
    bigSep ((Rd m ρ).duties g r \ ∅) (fun d => (Rd m ρ).payload g r d) = (Rd m ρ).payload g r 0 := by
  rw [Finset.sdiff_empty, h, bigSep_singleton]

/-- The barrier has no duty after its one round. -/
theorem later_bar : ∀ r, 1 ≤ r → (Rd m ρ).duties (bar c) r = ∅ := fun r hr => by
  show dutyK c (useOf (.reg barS)) r = _; rw [use_bar]; match r, hr with | _ + 1, _ => rfl
/-- A fetch semaphore has no duty after its two rounds. -/
theorem later_w (s : Fin 8) : ∀ r, 2 ≤ r → (Rd m ρ).duties (wC c s) r = ∅ := fun r hr => by
  show dutyK c (useOf (.dma (wS s))) r = _; rw [use_w]; match r, hr with | _ + 2, _ => rfl
/-- The row copy's sending has no duty after its one round. -/
theorem later_xs : ∀ r, 1 ≤ r → (Rd m ρ).duties (xsC c) r = ∅ := fun r hr => by
  show dutyK c (useOf (.dma xsS)) r = _; rw [use_xs]; match r, hr with | _ + 1, _ => rfl
/-- The row copy's arrival has no duty after its one round. -/
theorem later_xr : ∀ r, 1 ≤ r → (Rd m ρ).duties (xrC c) r = ∅ := fun r hr => by
  show dutyK c (useOf (.dma xrS)) r = _; rw [use_xr]; match r, hr with | _ + 1, _ => rfl
/-- A send semaphore has no duty after its last round. -/
theorem later_snd (s : Fin 8) (R : ℕ) (h : 2 ≤ R ∨ (1 ≤ R ∧ s = 0)) : ∀ r, R ≤ r → (Rd m ρ).duties (sndC c s) r = ∅ := fun r hr => by
  show dutyK c (useOf (.dma (sndS s))) r = _; rw [use_snd]
  match r, hr with
  | 0, hr => exact absurd hr (by omega)
  | 1, hr => exact if_pos (by omega)
  | _ + 2, _ => rfl
/-- An arrival semaphore has no duty after its one round, that of the device's own pair none at all. -/
theorem later_rcv (k : Fin 16) (R : ℕ) (h : 1 ≤ R ∨ k = pairOf c) : ∀ r, R ≤ r → (Rd m ρ).duties (rcvC c k) r = ∅ := fun r hr => by
  show dutyK c (useOf (.dma (rcvS k))) r = _; rw [use_rcv]
  match r, hr with
  | 0, hr => exact if_pos (h.resolve_left (by omega))
  | _ + 1, _ => rfl

end Tables

end Cert.AllToAll

end
-- ==== Proof.Tools.lean ====
/-
Runs of a family of assertions, windows owned at some share, loads and stores through a window.
-/
module

public import proofs.«01_k».proof.Proof.Contents

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Runs of a family indexed by a counter -/

/-- The members `a, …, b - 1` of a family. -/
def Rng (a b : ℕ) (Φ : ℕ → sProp 𝕄) : sProp 𝕄 := bigSep (Finset.Ico a b) Φ

/-- The first member apart. -/
theorem Rng_take {a b : ℕ} (h : a < b) (Φ : ℕ → sProp 𝕄) : Rng a b Φ = iprop(Φ a ∗ Rng (a + 1) b Φ) := by
  unfold Rng
  rw [show Finset.Ico a b = insert a (Finset.Ico (a + 1) b) by ext x; simp only [Finset.mem_insert, Finset.mem_Ico]; omega, bigSep_insert (by simp)]; rfl
/-- The last member apart. -/
theorem Rng_push {a b : ℕ} (h : a ≤ b) (Φ : ℕ → sProp 𝕄) : Rng a (b + 1) Φ = iprop(Φ b ∗ Rng a b Φ) := by
  unfold Rng
  rw [show Finset.Ico a (b + 1) = insert b (Finset.Ico a b) by ext x; simp only [Finset.mem_insert, Finset.mem_Ico]; omega, bigSep_insert (by simp)]; rfl
/-- An empty run. -/
theorem Rng_nil {a b : ℕ} (h : b ≤ a) (Φ : ℕ → sProp 𝕄) : Rng a b Φ = iprop(emp) := by
  unfold Rng; rw [Finset.Ico_eq_empty (by omega), bigSep_empty]; rfl
/-- The run of all members of a finite family. -/
theorem Rng_fin (n : ℕ) (Φ : ℕ → sProp 𝕄) : Rng 0 n Φ = bigSep Finset.univ fun i : Fin n => Φ i.val := by
  unfold Rng
  rw [show Finset.Ico 0 n = (Finset.univ : Finset (Fin n)).map Fin.valEmbedding by ext x; simp [Fin.exists_iff], bigSep_map]; rfl
/-- Two ranges of resources with equal members are equal. -/
theorem Rng_congr {a b : ℕ} {Φ Ψ : ℕ → sProp 𝕄} (h : ∀ i, a ≤ i → i < b → Φ i = Ψ i) : Rng a b Φ = Rng a b Ψ :=
  bigSep_congr fun i hi => h i (Finset.mem_Ico.mp hi).1 (Finset.mem_Ico.mp hi).2

/-- A family of assertions, each weakened. -/
theorem fam_mono {I : Type} {s : Finset I} {Φ Ψ : I → sProp 𝕄} (h : ∀ i ∈ s, (Φ i ⊢ Ψ i)) : bigSep s Φ ⊢ bigSep s Ψ := bigSep_mono h

/-- A member of a family. -/
theorem fam_elim {I : Type} [Fintype I] [DecidableEq I] {Φ : I → sProp 𝕄} (i : I) : bigSep Finset.univ Φ ⊢ Φ i := bigSep_elim (Finset.mem_univ i)

/-! ## Windows owned -/

section Windows
variable (c : Dev nD) {sp : Space} {sh sh' : Shape} {e : EltTy}

/-- A window that holds something is held with some contents. -/
theorem holds_any (w : Memref sig .tc sp sh e) (X : sh.Idx → Elt F e) : holds c w fullShare X ⊢ (anyOwn c w : sProp 𝕄) := by
  unfold holds owns anyOwn
  iintro ⟨%f, -, H⟩; iexists f; iexact H

/-- What a whole write of a window leaves. -/
theorem written (w : Memref sig .tc sp sh e) (f : Buf (Elt F) (w.view.loc (c : Thread nD τ))) (X : sh.Idx → Elt F e) :
    (w.view.loc (c : Thread nD τ) ↦[w.view.set]{fullShare} (w.view.write (Elt F) f X Finset.univ)) ⊢ (holds c w fullShare X : sProp 𝕄) := by
  unfold holds owns
  iintro H; iexists _; isplitr; · ipureintro; exact View.read_write_univ (Val := Elt F) f X
  iexact H

/-- The number of elements of a squeezed shape, row by row. -/
def unsq (h : sh'.numel = sh.numel) (X : sh'.Idx → Elt F e) : sh.Idx → Elt F e := fun i => X ((Shape.reshapeEquiv h).symm i)

/-- An entry of an unsqueezed array. -/
theorem unsq_apply (h : sh'.numel = sh.numel) (X : sh'.Idx → Elt F e) (j : sh'.Idx) : unsq h X (Shape.reshapeEquiv h j) = X j := by
  unfold unsq; rw [Equiv.symm_apply_apply]

/-- Holding a squeezed window is holding the window with the unsqueezed contents. -/
theorem holds_squeeze (w : Memref sig .tc sp sh e) (h : sh.Squeezes sh') (q : PosShare TreeShare) (X : sh'.Idx → Elt F e) :
    (holds c (w.squeeze sh' h) q X : sProp 𝕄) = holds c w q (unsq h.numel_eq X) := by
  unfold holds owns
  simp only [Memref.view_squeeze, View.set_reshape]
  have key : ∀ f : w.view.ty.Contents (Elt F), ((w.view.reshape sh' h.numel_eq).read (Elt F) f = X) = (w.view.read (Elt F) f = unsq h.numel_eq X) := by
    intro f
    have hr : ∀ j, (w.view.reshape sh' h.numel_eq).read (Elt F) f j = w.view.read (Elt F) f (Shape.reshapeEquiv h.numel_eq j) := fun j => rfl
    refine propext ⟨fun hf => funext fun i => ?_, fun hf => funext fun j => ?_⟩
    · have := congrFun hf ((Shape.reshapeEquiv h.numel_eq).symm i)
      rw [hr, Equiv.apply_symm_apply] at this; exact this
    · rw [hr, hf, unsq_apply]
  simp only [key]

/-- Holding a squeezed window with some contents is holding the window with some. -/
theorem any_squeeze (w : Memref sig .tc sp sh e) (h : sh.Squeezes sh') : (anyOwn c (w.squeeze sh' h) : sProp 𝕄) = anyOwn c w := by
  unfold anyOwn; simp only [Memref.view_squeeze, View.set_reshape]

end Windows

/-! ## Loads and stores through a window -/

abbrev 𝒱₀ : Variants := Variants.none

/-- The weakest precondition on device `c`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

section Access
variable (c : Dev nD) {sh : Shape} {e : EltTy} {α : Type}

/-- A load of a held slice continues with what the slice holds. -/
theorem load_slice {Q : α → sProp 𝕄} (w : Memref sig .tc .vmem sh e) (r : Rect sh) (hst : ∀ a, r.stride a = 1) (q : PosShare TreeShare) (X : r.shape.Idx → Elt F e)
    {hl : w.view.LoadsAt r.toLoadRect} {k : (r.shape.Idx → Elt F e) → Prog (TpuEff nD τ sig (Elt F) Λ₀ .tc) α} :
    holds c (w.slice r hst) q X ⊢ iprop((holds c (w.slice r hst) q X -∗ WP c (k X) Q) -∗ WP c (.op (.load w r.toLoadRect hl) k) Q) := by
  unfold holds owns
  iintro ⟨%f, %hf, H⟩ Hk
  iapply (wp_load_rect 𝒱₀ (c : Thread nD τ) none Set.univ (m := w) (r := r) (Finset.Subset.refl _)) $$ H
  iintro H
  rw [show (w.access r).read (Elt F) f = X from hf]
  iapply Hk; iexists f; isplitr; · ipureintro; exact hf
  iexact H

/-- A load whose value is not used. -/
theorem load_any {Q : α → sProp 𝕄} (w : Memref sig .tc .vmem sh e) (r : Rect sh) (hst : ∀ a, r.stride a = 1)
    {hl : w.view.LoadsAt r.toLoadRect} {k : (r.shape.Idx → Elt F e) → Prog (TpuEff nD τ sig (Elt F) Λ₀ .tc) α} :
    anyOwn c (w.slice r hst) ⊢ iprop((∀ X, anyOwn c (w.slice r hst) -∗ WP c (k X) Q) -∗ WP c (.op (.load w r.toLoadRect hl) k) Q) := by
  unfold anyOwn
  iintro ⟨%f, H⟩ Hk
  iapply (wp_load_rect 𝒱₀ (c : Thread nD τ) none Set.univ (m := w) (r := r) (Finset.Subset.refl _)) $$ H
  iintro H
  iapply Hk; iexists f
  iexact H

/-- A store into a slice leaves it holding what was stored. -/
theorem store_slice {Q : α → sProp 𝕄} (w : Memref sig .tc .vmem sh e) (r : Rect sh) (hst : ∀ a, r.stride a = 1) (X : r.shape.Idx → Elt F e)
    {hx : (w.access r).Stores Finset.univ} {hm : (Finset.univ : Finset r.shape.Idx) = Finset.univ ∨ ∀ a, r.stride a = 1} {k : PUnit → Prog (TpuEff nD τ sig (Elt F) Λ₀ .tc) α} :
    anyOwn c (w.slice r hst) ⊢ iprop((holds c (w.slice r hst) fullShare X -∗ WP c (k ⟨⟩) Q) -∗ WP c (.op (.store w r X Finset.univ hx hm) k) Q) := by
  unfold anyOwn
  iintro ⟨%f, H⟩ Hk
  iapply (wp_store 𝒱₀ (c : Thread nD τ) none Set.univ (m := w) (r := r) (Mk := Finset.univ) (S := (w.slice r hst).view.set) (Finset.Subset.refl _)) $$ H
  iintro H
  iapply Hk
  iapply (written c (w.slice r hst) f X)
  iexact H

end Access

end Cert.AllToAll

end
-- ==== Proof.Windows.lean ====
/-
The kernel's buffers as the windows they are used through.
-/
module

public import proofs.«01_k».proof.Proof.Tools

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A buffer and its parts -/

section Parts
variable {T : Type} [Fintype T] [DecidableEq T] {ℓ : Loc nD τ sig} (K : T → Finset (Idx ℓ)) (part : Idx ℓ → T) (hK : ∀ t i, i ∈ K t ↔ part i = t)

include hK

/-- Different parts have no index in common. -/
theorem parts_disjoint : ∀ t ∈ (Finset.univ : Finset T), ∀ t' ∈ (Finset.univ : Finset T), t ≠ t' → Disjoint (K t) (K t') := fun t _ t' _ h =>
  Finset.disjoint_left.mpr fun i hi hi' => h (((hK t i).mp hi).symm.trans ((hK t' i).mp hi'))

/-- The parts are, together, the whole buffer. -/
theorem parts_cover : (Finset.univ : Finset T).biUnion K = Finset.univ := by
  ext i; simp only [Finset.mem_biUnion, Finset.mem_univ, true_and, iff_true]
  exact ⟨part i, (hK _ _).mpr rfl⟩

/-- A buffer at share `q` is its parts. -/
theorem parts_eq (q : PosShare TreeShare) (f : Buf (Elt F) ℓ) : (ℓ ↦{q} f : sProp 𝕄) = bigSep Finset.univ fun t => ℓ ↦[K t]{q} f := by
  rw [← pointsTo_biUnion Finset.univ K (parts_disjoint K part hK), parts_cover K part hK]

/-- A whole buffer can be held part by part. -/
theorem parts_split : (∃ f, (ℓ ↦{fullShare} f)) ⊢ (bigSep Finset.univ fun t => iprop(∃ f, ℓ ↦[K t]{fullShare} f) : sProp 𝕄) := by
  iintro ⟨%f, H⟩
  ihave H' := (Entails.of_eq (parts_eq K part hK fullShare f)) $$ H
  iapply (fam_mono fun t _ => (show (ℓ ↦[K t]{fullShare} f) ⊢ (iprop(∃ f, ℓ ↦[K t]{fullShare} f) : sProp 𝕄) from by iintro H; iexists f; iexact H)) $$ H'

/-- Parts that each agree with `g` make the buffer at `g`. -/
theorem parts_join (q : PosShare TreeShare) (g : Buf (Elt F) ℓ) (P : T → Buf (Elt F) ℓ → Prop) (hP : ∀ t f, P t f → ∀ i ∈ K t, f i = g i) :
    (bigSep Finset.univ fun t => iprop(∃ f, ⌜P t f⌝ ∗ ℓ ↦[K t]{q} f)) ⊢ (ℓ ↦{q} g : sProp 𝕄) := by
  rw [parts_eq K part hK q g]
  refine fam_mono fun t _ => ?_
  iintro ⟨%f, %hf, H⟩
  iapply (Entails.of_eq (pointsTo_congr (hP t f hf))) $$ H

/-- Parts at any contents make the buffer at some contents. -/
theorem parts_join_any (f₀ : Buf (Elt F) ℓ) :
    (bigSep Finset.univ fun t => iprop(∃ f, ℓ ↦[K t]{fullShare} f)) ⊢ (∃ f, (ℓ ↦{fullShare} f) : sProp 𝕄) := by
  refine (BI.bigSep_exists_pi _ _).trans ?_
  iintro ⟨%fs, H⟩
  ihave H' := (pointsTo_biUnion_join Finset.univ K fs f₀ (parts_disjoint K part hK)) $$ H
  icases H' with ⟨%g, -, H⟩
  iexists g
  iapply (Entails.of_eq (by rw [parts_cover K part hK])) $$ H

end Parts

/-! ## The parts of the kernel's buffers -/

/-- Two contents that read the same through a window agree on its indices. -/
theorem agree_of_read {sp : Space} {s : Shape} {e : EltTy} (v : View sig .tc sp s e) {f g : v.ty.Contents (Elt F)} (h : v.read (Elt F) f = v.read (Elt F) g) :
    ∀ i ∈ v.set, f i = g i := by
  intro i hi
  obtain ⟨x, -, rfl⟩ := Finset.mem_map.mp hi
  have := congrFun h x
  rw [View.read_apply, View.read_apply] at this
  exact (cast_inj _).mp this

set_option backward.proofsInPublic true in
/-- The slot an element of the ring of `w` blocks lies in; -/
def wPart (i : S8x4096x256.Idx) : Fin 8 := i 0
set_option backward.proofsInPublic true in
/-- of the ring of products; -/
def sPart (i : S8x256x256.Idx) : Fin 8 := i 0
set_option backward.proofsInPublic true in
/-- the pair whose rows an element of the result lies in. -/
def oPart (i : S4096x256.Idx) : Fin 16 := ⟨(i 0).val / 256, by have : (i 0).val < 4096 := (i 0).isLt; omega⟩

/-- An index of the fetch ring is in slot `s` if its first coordinate says so. -/
theorem mem_wSl (s : Fin 8) (i : S8x4096x256.Idx) : i ∈ (wSl s).view.set ↔ wPart i = s := by
  have h : (wSl s).view.set = (Rect.unit (s := S8x4096x256) ![s.val, 0, 0] S1x4096x256.size (wSl_inb s)).set := by
    exact (View.set_reshape _ _).trans (View.set_slice_whole _ _)
  rw [h, Rect.mem_set_unit]
  have h1 : (i 1).val < 4096 := (i 1).isLt
  have h2 : (i 2).val < 256 := (i 2).isLt
  constructor
  · intro ha; have := ha 0; refine Fin.ext ?_; simp [wPart] at this ⊢; omega
  · rintro rfl a; fin_cases a <;> simp [wPart] <;> omega

/-- An index of the send ring is in slot `s` if its first coordinate says so. -/
theorem mem_sSl (s : Fin 8) (i : S8x256x256.Idx) : i ∈ (sSl s).view.set ↔ sPart i = s := by
  have h : (sSl s).view.set = (Rect.unit (s := S8x256x256) ![s.val, 0, 0] S1x256x256.size (sSl_inb s)).set := by
    exact (View.set_reshape _ _).trans (View.set_slice_whole _ _)
  rw [h, Rect.mem_set_unit]
  have h1 : (i 1).val < 256 := (i 1).isLt
  have h2 : (i 2).val < 256 := (i 2).isLt
  constructor
  · intro ha; have := ha 0; refine Fin.ext ?_; simp [sPart] at this ⊢; omega
  · rintro rfl a; fin_cases a <;> simp [sPart] <;> omega

/-- An index of the result is in block `k` if its row says so. -/
theorem mem_oW (k : Fin 16) (i : S4096x256.Idx) : i ∈ (oW k).view.set ↔ oPart i = k := by
  have h : (oW k).view.set = (Rect.unit (s := S4096x256) ![256 * k.val, 0] S256x256.size (oW_inb k)).set := View.set_slice_whole _ _
  rw [h, Rect.mem_set_unit]
  have h0 : (i 0).val < 4096 := (i 0).isLt
  have h1 : (i 1).val < 256 := (i 1).isLt
  constructor
  · intro ha; have := ha 0; refine Fin.ext ?_; simp [oPart] at this ⊢; omega
  · rintro rfl a; fin_cases a <;> simp [oPart] <;> omega

/-- Whether an element of the row buffer lies in device `c`'s own half. -/
def xPart (c : Dev nD) (i : S256x4096.Idx) : Bool := decide ((i 0).val / 128 = c.val % 2)
/-- A half of the row buffer: the device's own, or its partner's. -/
abbrev xHalf (c : Dev nD) (b : Bool) : Dev nD := if b then c else partner c

/-- Partners have different parity. -/
theorem partner_mod (c : Dev nD) : (partner c).val % 2 = 1 - c.val % 2 := by revert c; decide +kernel

/-- An index of the row buffer is in a device's half if its row is in the half of the device's parity. -/
theorem mem_xsW' (c : Dev nD) (i : S256x4096.Idx) : i ∈ (xsW c).view.set ↔ (i 0).val / 128 = c.val % 2 := by
  have h : (xsW c).view.set = (Rect.unit (s := S256x4096) (k0_off3 c) S128x4096.size (k0_off3_inb c)).set := View.set_slice_whole _ _
  rw [h, Rect.mem_set_unit, k0_off3_eq]
  have h0 : (i 0).val < 256 := (i 0).isLt
  have h1 : (i 1).val < 4096 := (i 1).isLt
  constructor
  · intro ha; have := ha 0; simp at this ⊢; omega
  · intro ha a; fin_cases a <;> simp <;> omega

/-- An index of the row buffer is in the device's or the partner's half as its part says. -/
theorem mem_xsW (c : Dev nD) (b : Bool) (i : S256x4096.Idx) : i ∈ (xsW (xHalf c b)).view.set ↔ xPart c i = b := by
  rw [mem_xsW']
  have h0 : (i 0).val < 256 := (i 0).isLt
  have hc : c.val % 2 < 2 := Nat.mod_lt _ (by decide)
  have hp := partner_mod c
  cases b
  · show (i 0).val / 128 = (partner c).val % 2 ↔ decide ((i 0).val / 128 = c.val % 2) = false
    rw [hp, decide_eq_false_iff_not]; omega
  · show (i 0).val / 128 = c.val % 2 ↔ decide ((i 0).val / 128 = c.val % 2) = true
    rw [decide_eq_true_iff]

section
variable (c : Dev nD)

/-- The ring of `w` blocks as its slots; -/
theorem split_w : (∃ f, ((c : Thread nD τ).loc cc0_scratch1 ↦{fullShare} f)) ⊢ (bigSep Finset.univ fun s => anyOwn c (wSl s) : sProp 𝕄) :=
  parts_split (ℓ := (c : Thread nD τ).loc cc0_scratch1) (fun s => (wSl s).view.set) wPart mem_wSl
/-- The slots of the fetch ring are, together, the ring. -/
theorem join_w (f₀ : Buf (Elt F) ((c : Thread nD τ).loc cc0_scratch1)) : (bigSep Finset.univ fun s => anyOwn c (wSl s)) ⊢ (∃ f, ((c : Thread nD τ).loc cc0_scratch1 ↦{fullShare} f) : sProp 𝕄) :=
  parts_join_any (ℓ := (c : Thread nD τ).loc cc0_scratch1) (fun s => (wSl s).view.set) wPart mem_wSl f₀
/-- the ring of products as its slots; -/
theorem split_s : (∃ f, ((c : Thread nD τ).loc cc0_scratch2 ↦{fullShare} f)) ⊢ (bigSep Finset.univ fun s => anyOwn c (sSl s) : sProp 𝕄) :=
  parts_split (ℓ := (c : Thread nD τ).loc cc0_scratch2) (fun s => (sSl s).view.set) sPart mem_sSl
/-- The slots of the send ring are, together, the ring. -/
theorem join_s (f₀ : Buf (Elt F) ((c : Thread nD τ).loc cc0_scratch2)) : (bigSep Finset.univ fun s => anyOwn c (sSl s)) ⊢ (∃ f, ((c : Thread nD τ).loc cc0_scratch2 ↦{fullShare} f) : sProp 𝕄) :=
  parts_join_any (ℓ := (c : Thread nD τ).loc cc0_scratch2) (fun s => (sSl s).view.set) sPart mem_sSl f₀
/-- the result as the rows of the sixteen pairs. -/
theorem split_o : (∃ f, ((c : Thread nD τ).loc cc0_stg1_0 ↦{fullShare} f)) ⊢ (bigSep Finset.univ fun k => anyOwn c (oW k) : sProp 𝕄) :=
  parts_split (ℓ := (c : Thread nD τ).loc cc0_stg1_0) (fun k => (oW k).view.set) oPart mem_oW

/-- Block `k` of the final result is the product that the peer in pair `k` sent. -/
theorem read_out (k : Fin 16) : (oW k).view.read (Elt F) (outAt m ρ c) = yBlk m ρ (peer c (k - pairOf c)) (-(k - pairOf c)) := by
  funext j
  have h0 : (j 0).val < 256 := (j 0).isLt
  have e0 : ((oW k).view.emb j 0).val = 256 * k.val + (j 0).val := by show 256 * k.val + 1 * (j 0).val = _; omega
  have e1 : ((oW k).view.emb j 1) = j 1 := Fin.ext (by show 0 + 1 * (j 1).val = _; omega)
  show outAt m ρ c ((oW k).view.emb j) = _
  have hk : (⟨((oW k).view.emb j 0).val / 256, by have : ((oW k).view.emb j 0).val < 4096 := ((oW k).view.emb j 0).isLt; omega⟩ : Fin 16) = k := Fin.ext (by simp only [e0]; omega)
  have hj : (ValueIdx.ix2 ⟨((oW k).view.emb j 0).val % 256, Nat.mod_lt _ (by decide)⟩ ((oW k).view.emb j 1) : S256x256.Idx) = j := by
    funext a; match a with
    | ⟨0, _⟩ => exact Fin.ext (by show ((oW k).view.emb j 0).val % 256 = _; rw [e0]; show _ = (j 0).val; omega)
    | ⟨1, _⟩ => exact e1
  unfold outAt
  rw [hk, hj]

/-- The rows of all pairs, each as computed, are the device's result. -/
theorem join_o : (bigSep Finset.univ fun k => holds c (oW k) fullShare (yBlk m ρ (peer c (k - pairOf c)) (-(k - pairOf c))))
    ⊢ ((c : Thread nD τ).loc cc0_stg1_0 ↦{fullShare} (outAt m ρ c) : sProp 𝕄) :=
  parts_join (ℓ := (c : Thread nD τ).loc cc0_stg1_0) (fun k => (oW k).view.set) oPart mem_oW fullShare (outAt m ρ c) (fun k f => (oW k).view.read (Elt F) f = yBlk m ρ (peer c (k - pairOf c)) (-(k - pairOf c)))
    fun k f hf => agree_of_read _ (hf.trans (read_out m ρ c k).symm)

/-- A family over two cases is its two members. -/
theorem sep_bool (Φ : Bool → sProp 𝕄) : bigSep Finset.univ Φ = iprop(Φ true ∗ Φ false) := by
  rw [bigSep_univ_eq_bigSepL [true, false] (by decide) (by decide), bigSepL_cons_cons, bigSepL_singleton]; rfl

/-- The row buffer as its two halves. -/
theorem split_x : (∃ f, ((c : Thread nD τ).loc cc0_scratch0 ↦{fullShare} f)) ⊢ (iprop(anyOwn c (xsW c) ∗ anyOwn c (xsW (partner c))) : sProp 𝕄) :=
  (parts_split (ℓ := (c : Thread nD τ).loc cc0_scratch0) (fun b => (xsW (xHalf c b)).view.set) (xPart c) (mem_xsW c)).trans (Entails.of_eq (sep_bool _))
/-- The two halves of the row buffer are, together, the buffer. -/
theorem join_x_any (f₀ : Buf (Elt F) ((c : Thread nD τ).loc cc0_scratch0)) : (iprop(anyOwn c (xsW c) ∗ anyOwn c (xsW (partner c)))) ⊢ (∃ f, ((c : Thread nD τ).loc cc0_scratch0 ↦{fullShare} f) : sProp 𝕄) :=
  (Entails.of_eq (sep_bool (fun b => anyOwn c (xsW (xHalf c b)))).symm).trans (parts_join_any (ℓ := (c : Thread nD τ).loc cc0_scratch0) (fun b => (xsW (xHalf c b)).view.set) (xPart c) (mem_xsW c) f₀)

/-- The rows of a device's half come from that device. -/
theorem rowDev_half (c : Dev nD) (r : Fin 128) (h : 128 * (c.val % 2) + r.val < 256) : rowDev c ⟨128 * (c.val % 2) + r.val, h⟩ = c := by
  have := r.isLt
  refine Fin.ext ?_; simp only [rowDev, pairOf]; omega

/-- A device's half of the full row buffer is its rows of `x`. -/
theorem read_xs : (xsW c).view.read (Elt F) (xsAll m ρ c) = xstg m ρ c := by
  funext j
  have h0 : (j 0).val < 128 := (j 0).isLt
  have e0 : ((xsW c).view.emb j 0).val = 128 * (c.val % 2) + (j 0).val := by
    show k0_off3 c 0 + 1 * (j 0).val = _; rw [k0_off3_eq]; simp
  have e1 : ((xsW c).view.emb j 1) = j 1 := Fin.ext (by show k0_off3 c 1 + 1 * (j 1).val = _; rw [k0_off3_eq]; simp)
  show xsAll m ρ c ((xsW c).view.emb j) = _
  have hd : rowDev c ((xsW c).view.emb j 0) = c := by
    rw [show (xsW c).view.emb j 0 = (⟨128 * (c.val % 2) + (j 0).val, by omega⟩ : Fin 256) from Fin.ext e0]
    exact rowDev_half c (j 0) _
  have hj : (ValueIdx.ix2 ⟨((xsW c).view.emb j 0).val % 128, Nat.mod_lt _ (by decide)⟩ ((xsW c).view.emb j 1) : S128x4096.Idx) = j := by
    funext a; match a with
    | ⟨0, _⟩ => exact Fin.ext (by show ((xsW c).view.emb j 0).val % 128 = _; rw [e0]; show _ = (j 0).val; omega)
    | ⟨1, _⟩ => exact e1
  unfold xsAll
  rw [hd, hj]

/-- The two halves, holding the two partners' rows, are the full row buffer. -/
theorem join_x (q : PosShare TreeShare) : (iprop(holds c (xsW c) q (xstg m ρ c) ∗ holds c (xsW (partner c)) q (xstg m ρ (partner c))))
    ⊢ ((c : Thread nD τ).loc cc0_scratch0 ↦{q} (xsAll m ρ c) : sProp 𝕄) :=
  (Entails.of_eq (sep_bool (fun b => holds c (xsW (xHalf c b)) q (xstg m ρ (xHalf c b)))).symm).trans
    (parts_join (ℓ := (c : Thread nD τ).loc cc0_scratch0) (fun b => (xsW (xHalf c b)).view.set) (xPart c) (mem_xsW c) q (xsAll m ρ c) (fun b f => (xsW (xHalf c b)).view.read (Elt F) f = xstg m ρ (xHalf c b))
      fun b f hf => agree_of_read _ (hf.trans (by cases b; exacts [(by rw [← xsAll_partner]; exact (read_xs m ρ (partner c)).symm), (read_xs m ρ c).symm])))

end

end Cert.AllToAll

end
-- ==== Proof.State.lean ====
/-
The state of a device as its counters advance.
-/
module

public import proofs.«01_k».proof.Proof.Schedule
public import proofs.«01_k».proof.Proof.Windows

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Counters -/

set_option backward.proofsInPublic true in
/-- A counter as one of the sixteen pairs, and as one of the eight slots. -/
def i16 (t : ℕ) : Fin 16 := ⟨t % 16, Nat.mod_lt _ (by decide)⟩
set_option backward.proofsInPublic true in
def i8 (t : ℕ) : Fin 8 := ⟨t % 8, Nat.mod_lt _ (by decide)⟩

/-- A number below 16, reduced, is itself. -/
theorem i16_val (t : Fin 16) : i16 t.val = t := Fin.ext (Nat.mod_eq_of_lt t.isLt)
/-- Fetch `t` is that of slot `t mod 8` in round `t / 8`. -/
theorem roundIx_i8 {t : ℕ} (h : t < 16) : roundIx (i8 t) (t / 8) = i16 t := Fin.ext (by simp only [roundIx, i8, i16]; omega)
/-- A positive number below 16 stays positive when reduced. -/
theorem i16_ne {t : ℕ} (h : 0 < t) (h' : t < 16) : i16 t ≠ 0 := fun e => by
  have := congrArg Fin.val e; simp only [i16] at this; rw [Nat.mod_eq_of_lt h'] at this; exact absurd this (Nat.pos_iff_ne_zero.mp h)

/-! ## What a device owes -/

/-- The arrivals of the last `j` sends of device `c`; -/
def oR (c : Dev nD) : ℕ → CellTallies nD τ sig Unit
  | 0 => 0
  | j + 1 => oR c j + tallyAt (rcvC (peer c (i16 (15 - j))) (pairOf c)) () NO
/-- before them the arrival of its half of the rows, and its last `j` barrier signals. -/
def oB (c : Dev nD) : ℕ → CellTallies nD τ sig Unit
  | 0 => oR c 15 + tallyAt (xrC (partner c)) () NX
  | j + 1 => oB c j + tallyAt (bar (sigTo c (i16 (15 - j)))) () 1
/-- What is owed with `g` signals given, the row exchange at stage `x` and the sends below `a` made. -/
def owed (c : Dev nD) (g x a : ℕ) : CellTallies nD τ sig Unit := if x < 3 then oB c (16 - g) else oR c (16 - a)

/-- Sending signal `g` takes one unit off what a device owes. -/
theorem owed_sig (c : Dev nD) {g x a : ℕ} (h : g < 16) (hx : x < 3) : owed c g x a = owed c (g + 1) x a + tallyAt (bar (sigTo c (i16 g))) () 1 := by
  unfold owed; rw [if_pos hx, if_pos hx, show 16 - g = (16 - (g + 1)) + 1 by omega]
  show oB c (16 - (g + 1)) + tallyAt (bar (sigTo c (i16 (15 - (16 - (g + 1)))))) () 1 = _
  rw [show 15 - (16 - (g + 1)) = g by omega]
/-- The row copy takes its arrival's units off what a device owes. -/
theorem owed_x (c : Dev nD) : owed c 16 2 1 = owed c 16 3 1 + tallyAt (xrC (partner c)) () NX := by
  unfold owed; rw [if_pos (by decide), if_neg (by decide)]; rfl
/-- Sending product `a` takes its arrival's units off what a device owes. -/
theorem owed_send (c : Dev nD) {g x a : ℕ} (h : a < 16) (hx : ¬ x < 3) : owed c g x a = owed c g x (a + 1) + tallyAt (rcvC (peer c (i16 a)) (pairOf c)) () NO := by
  unfold owed; rw [if_neg hx, if_neg hx, show 16 - a = (16 - (a + 1)) + 1 by omega]
  show oR c (16 - (a + 1)) + tallyAt (rcvC (peer c (i16 (15 - (16 - (a + 1))))) (pairOf c)) () NO = _
  rw [show 15 - (16 - (a + 1)) = a by omega]

/-- The semaphores' levels: a device waits only for semaphores below all it owes. -/
def L (g : GSem nD τ sig) : Finset Unit := if g.1.2 = .tc then {()} else ∅
def lvU : Use → ℕ
  | .bar => 1 | .xr => 2 | .rcv _ => 3 | _ => 0
def lv (g : GSem nD τ sig) (_ : Unit) : ℕ := lvU (useOf g.2)

/-- Only the semaphores of the main cores are in use. -/
theorem L_of_ne (g : GSem nD τ sig) (h : g.1.2 ≠ .tc) : L g = ∅ := if_neg h
/-- Each semaphore of a main core has one kind of unit. -/
theorem L_tc (c : Dev nD) (sm : SemLoc sig) : L ((c : Thread nD τ), sm) = {()} := if_pos rfl

/-- A sum of tallies that is positive at a cell has a summand that is. -/
theorem pos_add {A B : CellTallies nD τ sig Unit} {g : GSem nD τ sig} {u : Unit} (h : 0 < (A + B) g u) : 0 < A g u ∨ 0 < B g u := by
  rw [Pi.add_apply, Finsupp.add_apply] at h; omega
/-- A tally at one cell is positive at that cell only. -/
theorem pos_tally {g' g : GSem nD τ sig} {n : ℕ} {u : Unit} (h : 0 < (tallyAt g' () n : CellTallies nD τ sig Unit) g u) : g = g' := by
  rw [tallyAt_apply] at h
  by_contra hn
  rw [if_neg (fun h' => hn h'.1)] at h; exact Nat.lt_irrefl 0 h

/-- Each product still owed is at level 3 or above, on a main core. -/
theorem oR_pos (c : Dev nD) {g : GSem nD τ sig} {u : Unit} : ∀ j, 0 < oR c j g u → g.1.2 = .tc ∧ 3 ≤ lv g u
  | 0, h => absurd h (Nat.lt_irrefl 0)
  | j + 1, h => by
    rcases pos_add h with h | h
    · exact oR_pos c j h
    · rw [pos_tally h]; exact ⟨rfl, by unfold lv; rw [use_rcv]; exact Nat.le_refl _⟩
/-- Each signal still owed is on a main core, at level 1 or above; where none is, at level 2 or above. -/
theorem oB_pos (c : Dev nD) {g : GSem nD τ sig} {u : Unit} : ∀ j, 0 < oB c j g u → g.1.2 = .tc ∧ (if j = 0 then 2 else 1) ≤ lv g u
  | 0, h => by
    rcases pos_add h with h | h
    · exact ⟨(oR_pos c 15 h).1, Nat.le_trans (by decide) (oR_pos c 15 h).2⟩
    · rw [pos_tally h]; exact ⟨rfl, by unfold lv; rw [use_xr]; exact Nat.le_refl _⟩
  | j + 1, h => by
    rcases pos_add h with h | h
    · refine ⟨(oB_pos c j h).1, Nat.le_trans ?_ (oB_pos c j h).2⟩; rw [if_neg (Nat.succ_ne_zero _)]; split <;> decide
    · rw [pos_tally h]; exact ⟨rfl, by unfold lv; rw [use_bar]; exact Nat.le_refl _⟩

omit [FloatOps F] in
/-- A semaphore below everything owed may be waited for. -/
theorem mayWait_of (c : Dev nD) (sm : SemLoc sig) (O : CellTallies nD τ sig Unit) (l : ℕ) (hs : lvU (useOf sm) ≤ l)
    (hO : ∀ g u, 0 < O g u → g.1.2 = .tc ∧ l < lv g u) : (levAts L lv : sProp 𝕄) ⊢ MayWait (c : Thread nD τ) sm () O :=
  MayOwe.of_cut (L := L) (lev := lv) l (fun p hp => by rw [Finset.mem_singleton.mp hp, L_tc]; exact Finset.mem_singleton_self _)
    (fun g u hg => by rw [show L g = {()} from if_pos (hO g u hg).1]; exact Finset.mem_singleton_self _)
    (fun p hp => by rw [Finset.mem_singleton.mp hp]; exact hs)
    (fun g u hg => (hO g u hg).2)

/-- With the row exchange under way only arrivals of products are owed. -/
theorem mayWait_late (c : Dev nD) (sm : SemLoc sig) {g x a : ℕ} (hx : ¬ x < 3) (hs : lvU (useOf sm) ≤ 2) :
    (levAts L lv : sProp 𝕄) ⊢ MayWait (c : Thread nD τ) sm () (owed c g x a) := by
  unfold owed; rw [if_neg hx]
  exact mayWait_of c sm _ 2 hs fun g u h => oR_pos c _ h
/-- With all products sent nothing is owed. -/
theorem mayWait_end (c : Dev nD) (sm : SemLoc sig) {g x : ℕ} (hx : ¬ x < 3) :
    (levAts L lv : sProp 𝕄) ⊢ MayWait (c : Thread nD τ) sm () (owed c g x 16) := by
  unfold owed; rw [if_neg hx]
  show _ ⊢ MayWait (c : Thread nD τ) sm () 0
  rw [MayWait_zero]; iintro -; iempintro
/-- A device may wait at the barrier: all that it then owes is at a higher level. -/
theorem mayWait_bar (c : Dev nD) : (levAts L lv : sProp 𝕄) ⊢ MayWait (c : Thread nD τ) (.reg barS) () (owed c 16 1 1) := by
  unfold owed; rw [if_pos (by decide)]
  exact mayWait_of c _ _ 1 (by rw [use_bar]; exact Nat.le_refl _) fun g u h => oB_pos c 0 h

/-! ## The state of a device -/

section State
variable (K : Dev nD × Cell → ℕ) (c : Dev nD)

/-- What every device knows: the invariants of all semaphores, that each is at round 0 or later, and the levels. -/
def Rec : sProp 𝕄 :=
  iprop((bigSep Finset.univ fun ck : Dev nD × Cell => iprop(cellInv ER (Rd m ρ) (K ck) (kcell ck) ∗ reached ER (kcell ck) 0)) ∗ levAts L lv)

instance Rec_persistent : BI.Persistent (Rec m ρ K) := by unfold Rec; infer_instance

/-- The record of the mesh holds each cell's invariant and that its round 0 is reached. -/
theorem Rec_cell (ck : Dev nD × Cell) : Rec m ρ K ⊢ iprop(cellInv ER (Rd m ρ) (K ck) (kcell ck) ∗ reached ER (kcell ck) 0) := by
  unfold Rec
  iintro ⟨H, -⟩
  iapply (fam_elim ck) $$ H
/-- The record of the mesh holds the levels. -/
theorem Rec_lev : Rec m ρ K ⊢ (levAts L lv : sProp 𝕄) := by unfold Rec; iintro ⟨-, H⟩; iexact H

/-- The barrier signals still to give, each with what it hands over; -/
def sgI (q : ℕ) : sProp 𝕄 :=
  iprop(dutyTok ER (bar (sigTo c (i16 q))) 0 (-(i16 q)) ∗ (Rd m ρ).payload (bar (sigTo c (i16 q))) 0 (-(i16 q)))
/-- the device's own barrier; -/
def Br (x : ℕ) : sProp 𝕄 := if x < 2 then iprop(atPos ER (bar c) 0 ∅ 0 ∗ cred (tallyAt (bar c) () 16)) else atPos ER (bar c) 1 ∅ 0
/-- the rows of the peers it may fill, `t` onwards. -/
def pmI (t : ℕ) : sProp 𝕄 := anyOwn (peer c (i16 t)) (oW (pairOf c))
def Pm (x a : ℕ) : sProp 𝕄 := if x < 2 then iprop(emp) else Rng a 16 (pmI c)

/-- The row exchange: nothing yet; the own half stored; the partner's half at hand; sent; both halves here; all done. -/
def Xc : ℕ → sProp 𝕄
  | 0 => iprop(dutyTok ER (xsC c) 0 0 ∗ dutyTok ER (xrC (partner c)) 0 0 ∗ cred (tallyAt (xrC c) () NX) ∗ atPos ER (xrC c) 0 ∅ 0 ∗ atPos ER (xsC c) 0 ∅ 0
      ∗ anyOwn c (xsW c))
  | 1 => iprop(dutyTok ER (xsC c) 0 0 ∗ dutyTok ER (xrC (partner c)) 0 0 ∗ cred (tallyAt (xrC c) () NX) ∗ atPos ER (xrC c) 0 ∅ 0 ∗ atPos ER (xsC c) 0 ∅ 0
      ∗ holds c (xsW c) fullShare (xstg m ρ c))
  | 2 => iprop(dutyTok ER (xsC c) 0 0 ∗ dutyTok ER (xrC (partner c)) 0 0 ∗ cred (tallyAt (xrC c) () NX) ∗ atPos ER (xrC c) 0 ∅ 0 ∗ atPos ER (xsC c) 0 ∅ 0
      ∗ holds c (xsW c) fullShare (xstg m ρ c) ∗ anyOwn (partner c) (xsW c))
  | 3 => iprop(cred (tallyAt (xrC c) () NX) ∗ atPos ER (xrC c) 0 ∅ 0 ∗ cred (tallyAt (xsC c) () NX) ∗ atPos ER (xsC c) 0 ∅ 0
      ∗ holds c (xsW c) fullShare.left (xstg m ρ c))
  | 4 => iprop(atPos ER (xrC c) 1 ∅ 0 ∗ cred (tallyAt (xsC c) () NX) ∗ atPos ER (xsC c) 0 ∅ 0
      ∗ ((c : Thread nD τ).loc cc0_scratch0 ↦{fullShare.left} (xsAll m ρ c)) ∗ holds c (xsW (partner c)) fullShare.right (xstg m ρ (partner c)))
  | _ => iprop(atPos ER (xrC c) 1 ∅ 0 ∗ atPos ER (xsC c) 1 ∅ 0 ∗ ∃ f, ((c : Thread nD τ).loc cc0_scratch0 ↦{fullShare} f))

/-- The blocks of `w`: a fetch to make, a slot never used, a fetch under way, a block in its slot. -/
def wP (t : ℕ) : sProp 𝕄 :=
  iprop(dutyTok ER (wC c (i8 t)) (t / 8) 0 ∗ ((wM.view.loc (c : Thread nD τ)) ↦{Transfers.shareTok fullShare 16 (i16 t)} (wArr m c)))
def wFree (t : ℕ) : sProp 𝕄 := iprop(anyOwn c (wSl (i8 t)) ∗ atPos ER (wC c (i8 t)) (t / 8) ∅ 0)
def wFl (t : ℕ) : sProp 𝕄 := iprop(cred (tallyAt (wC c (i8 t)) () NW) ∗ atPos ER (wC c (i8 t)) (t / 8) ∅ 0)
def wDn (t : ℕ) : sProp 𝕄 :=
  iprop(holds c (wSl (i8 t)) fullShare (wBlk m c (i16 t)) ∗ atPos ER (wC c (i8 t)) (t / 8 + 1) ∅ 0 ∗ reached ER (wC c (i8 t)) (t / 8 + 1))
/-- Fetches below `a` made, below `b` awaited. -/
def Wc (a b : ℕ) : sProp 𝕄 := iprop(Rng a 16 (wP m c) ∗ Rng a 8 (wFree c) ∗ Rng b a (wFl c) ∗ Rng (a - 8) b (wDn m c))

/-- The products: a send to make, a slot at hand, a product in its slot, a send under way. -/
def sP (t : ℕ) : sProp 𝕄 := iprop(dutyTok ER (sndC c (i8 t)) ((t - 1) / 8) 0 ∗ dutyTok ER (rcvC (peer c (i16 t)) (pairOf c)) 0 0)
def sFree (t : ℕ) : sProp 𝕄 :=
  iprop(anyOwn c (sSl (i8 t)) ∗ atPos ER (sndC c (i8 t)) ((t - 1) / 8) ∅ 0 ∗ reached ER (sndC c (i8 t)) ((t - 1) / 8))
def sHold (t : ℕ) : sProp 𝕄 :=
  iprop(holds c (sSl (i8 t)) fullShare (yBlk m ρ c (i16 t)) ∗ atPos ER (sndC c (i8 t)) ((t - 1) / 8) ∅ 0 ∗ reached ER (sndC c (i8 t)) ((t - 1) / 8))
def sFl (t : ℕ) : sProp 𝕄 := iprop(cred (tallyAt (sndC c (i8 t)) () NO) ∗ atPos ER (sndC c (i8 t)) ((t - 1) / 8) ∅ 0)
/-- Sends below `a` made, products below `f` stored, sends below `w` known complete. -/
def Sc (a f w : ℕ) : sProp 𝕄 := iprop(Rng a 16 (sP c) ∗ Rng f (w + 8) (sFree c) ∗ Rng a f (sHold m ρ c) ∗ Rng w a (sFl c))

/-- The device's own rows. -/
def Oc (o : ℕ) : sProp 𝕄 := if o = 0 then anyOwn c (oW (pairOf c)) else holds c (oW (pairOf c)) fullShare (yBlk m ρ c 0)

/-- The arrivals: expected, and here. -/
def rP (q : ℕ) : sProp 𝕄 := iprop(cred (tallyAt (rcvC c (pairOf c + i16 q)) () NO) ∗ atPos ER (rcvC c (pairOf c + i16 q)) 0 ∅ 0)
def rDn (q : ℕ) : sProp 𝕄 :=
  iprop(holds c (oW (pairOf c + i16 q)) fullShare (yBlk m ρ (peer c (i16 q)) (-(i16 q))) ∗ atPos ER (rcvC c (pairOf c + i16 q)) 1 ∅ 0)
def Rc (r : ℕ) : sProp 𝕄 := iprop(Rng 1 r (rP c) ∗ Rng r 16 (rDn m ρ c) ∗ atPos ER (rcvC c (pairOf c)) 0 ∅ 0)

/-- Device `c` with `g` signals given, the row exchange at stage `x`, the fetches at `wa`, `wb`, the sends at `sa`, `sf`,
    `sw`, its own rows at `o` and the arrivals from `r` on here. -/
def St (g x wa wb sa sf sw o r : ℕ) : sProp 𝕄 :=
  iprop(Rec m ρ K ∗ (∃ W, owes (c : Thread nD τ) (owed c g x sa) W) ∗ ((c : Thread nD τ).loc cc0_stg0_0 ↦{fullShare} (xstg m ρ c))
    ∗ Rng g 16 (sgI m ρ c) ∗ Br c x ∗ Pm c x sa ∗ Xc m ρ c x ∗ Wc m c wa wb ∗ Sc m ρ c sa sf sw ∗ Oc m ρ c o ∗ Rc m ρ c r)

end State

end Cert.AllToAll

end
-- ==== Proof.Rules.lean ====
/-
What each kind of effect does to what it touches.
-/
module

public import proofs.«01_k».proof.Proof.State

@[expose] public section

set_option maxRecDepth 8000

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ) (c : Dev nD)

/-! ## Windows at some contents, at half a share -/

section
variable {sp : Space} {sh : Shape} {e : EltTy} (w : Memref sig .tc sp sh e)

/-- A window whose points are owned is held with some contents. -/
theorem any_intro (f : Buf (Elt F) (w.view.loc (c : Thread nD τ))) :
    (w.view.loc (c : Thread nD τ) ↦[w.view.set]{fullShare} f) ⊢ (anyOwn c w : sProp 𝕄) := by
  unfold anyOwn; iintro H; iexists f; iexact H

/-- A window whose points are owned holds what is read through it. -/
theorem holds_intro (q : PosShare TreeShare) (f : Buf (Elt F) (w.view.loc (c : Thread nD τ))) (X : sh.Idx → Elt F e) (h : w.view.read (Elt F) f = X) :
    (w.view.loc (c : Thread nD τ) ↦[w.view.set]{q} f) ⊢ (holds c w q X : sProp 𝕄) := by
  unfold holds owns; iintro H; iexists f; isplitr; · ipureintro; exact h
  iexact H

/-- A held window can be held in two halves. -/
theorem holds_halve (X : sh.Idx → Elt F e) : (holds c w fullShare X : sProp 𝕄) ⊢ iprop(holds c w fullShare.left X ∗ holds c w fullShare.right X) := by
  unfold holds owns
  iintro ⟨%f, %hf, H⟩
  ihave H := (pointsTo_share (PosShare.mem_left_op_right fullShare)).1 $$ H
  icases H with ⟨H1, H2⟩
  isplitl [H1]
  · iexists f; isplitr; · ipureintro; exact hf
    iexact H1
  · iexists f; isplitr; · ipureintro; exact hf
    iexact H2

end

/-! ## What each kind of effect does -/

section
variable {α : Type} {k : PUnit → Prog (TpuEff nD τ sig (Elt F) Λ₀ .tc) α}

/-- A fetch into a slot that is at hand. -/
theorem fetch_rule {Q : α → sProp 𝕄} (t : ℕ) (ht : t < 16)
    {h1 : (wCol c (i16 t)).view.WordExact} {h2 : (wSl (i8 t)).view.WordExact} {h3 : DmaTarget.Typed .hbm (.dma (wS (i8 t))) (DmaTarget.here (nD := nD) (p := (.tc : Proc τ)) (wSl (i8 t)))} :
    iprop(Rec m ρ K ∗ wP m c t ∗ anyOwn c (wSl (i8 t)) ∗ reached ER (wC c (i8 t)) (t / 8))
      ⊢ iprop((cred (tallyAt (wC c (i8 t)) () NW) -∗ WP c (k ⟨⟩) Q)
        -∗ WP c (.op (.enqueueDma (wCol c (i16 t)) (.here (wSl (i8 t))) (.dma (wS (i8 t))) h1 h2 h3) k) Q) := by
  unfold wP anyOwn
  iintro ⟨#HR, ⟨Htok, Hsrc⟩, ⟨%fd, Hdst⟩, #Hr⟩ Hk
  ihave #HI := (Rec_cell (F := F) m ρ K (c, .inr (.inl (i8 t)))) $$ HR
  icases HI with ⟨#HI, -⟩
  ihave Hs := (pointsTo_split_subset (Finset.subset_univ (wCol c (i16 t)).view.set)).1 $$ Hsrc
  icases Hs with ⟨Hsrc, -⟩
  iapply (Rounds.wp_copy_pointsTo 𝒱₀ ER (Rd m ρ) (c : Thread nD τ) none (κ := K (c, .inr (.inl (i8 t)))) (r := t / 8) (d := 0) (fd := fd)
    (by rw [duties_w m ρ c _ _ (by omega)]; exact Finset.mem_singleton_self _) () NW (by rw [View.amount_dma]; exact NW_slot _) (amount_w m ρ c _ _ _)
    (by
      rw [payload_w, roundIx_i8 ht]
      exact (show iprop(_ ∗ _) ⊢ _ from sep_elim_left).trans (written c (wSl (i8 t)) fd (wBlk m c (i16 t))))) $$ [Htok Hsrc Hdst]
  · isplitr; · iexact HI
    isplitl [Hsrc]; · iexact Hsrc
    isplitl [Hdst]; · iexact Hdst
    isplitl [Htok]; · iexact Htok
    iexact Hr
  iexact Hk

/-- A wait for the one duty of a round. -/
theorem wait_rule {Q : α → sProp 𝕄} {s : DmaSem sig} {ck : Cell} (hck : csem ck = .dma s) {N R : ℕ} {O : CellTallies nD τ sig Unit}
    (hd : (Rd m ρ).duties ((c : Thread nD τ), .dma s) R = {0}) (hN : (Rd m ρ).amount ((c : Thread nD τ), .dma s) R 0 = N)
    {sp sp' : Space} {sh sh' : Shape} {e e' : EltTy} {src : Memref sig .tc sp' sh' e'} {dst : Memref sig .tc sp sh e}
    {h1 : src.view.WordExact} {h2 : dst.view.WordExact} (hdst : dst.view.dmaCredit = N)
    (hw : (levAts L lv : sProp 𝕄) ⊢ MayWait (c : Thread nD τ) (.dma s) () O) :
    iprop(Rec m ρ K ∗ cred (tallyAt ((c : Thread nD τ), .dma s) () N) ∗ (∃ W, owes (c : Thread nD τ) O W) ∗ atPos ER ((c : Thread nD τ), .dma s) R ∅ 0)
      ⊢ iprop((((∃ W, owes (c : Thread nD τ) O W) ∗ atPos ER ((c : Thread nD τ), .dma s) (R + 1) ∅ 0 ∗ reached ER ((c : Thread nD τ), .dma s) (R + 1)
            ∗ (Rd m ρ).payload ((c : Thread nD τ), .dma s) R 0) -∗ WP c (k ⟨⟩) Q)
        -∗ WP c (.op (.waitDma2 s src dst h1 h2) k) Q) := by
  subst hdst
  have hw' : Rec m ρ K ⊢ (MayWait (c : Thread nD τ) (.dma s) () O : sProp 𝕄) := by
    exact (@Rec_lev F _ m ρ K).trans hw
  iintro ⟨#HR, Hc, ⟨%W, HO⟩, Hat⟩ Hk
  ihave #HI := (Rec_cell (F := F) m ρ K (c, ck)) $$ HR
  icases HI with ⟨#HI, -⟩
  unfold kcell
  rw [hck]
  iapply (Rounds.wp_wait_rest_token 𝒱₀ ER (Rd m ρ) (c : Thread nD τ) none (κ := K (c, ck))
      (wpE_waitDma2_eq 𝒱₀ (c : Thread nD τ) none Set.univ) (Set.mem_univ _) () (O := O) (W := W) (R := R) (m := 0) (T := ∅)
      (by rw [Nat.zero_add, expect_one m ρ hd, hN])) $$ [Hc HO Hat]
  · isplitr; · iexact HI
    isplitl [Hc]; · iexact Hc
    isplitl [HO]; · iexact HO
    isplitr; · iapply hw'; iexact HR
    iexact Hat
  iintro ⟨HO, Hat, Hr, Hpay⟩
  ihave Hp := (Entails.of_eq (rest_one m ρ hd)) $$ Hpay
  iapply Hk
  isplitl [HO]; · iexists _; iexact HO
  isplitl [Hat]; · iexact Hat
  isplitl [Hr]; · iexact Hr
  iexact Hp

end

end Cert.AllToAll

end
-- ==== Proof.StepsR.lean ====
/-
The arrivals.
-/
module

public import proofs.«01_k».proof.Proof.Rules

@[expose] public section

set_option maxRecDepth 8000

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ) (c : Dev nD)

/-! ## The arrivals and the device's own rows -/

section Arrive
variable {α : Type} {g x wa wb sa sf sw o r : ℕ}

/-- Only distance 0 leads back to the device's own pair. -/
theorem pair_add_ne (c : Dev nD) (q : Fin 16) : pairOf c + q = pairOf c → q = 0 := by revert c q; decide +kernel
/-- The pair at distance `q` is at distance `q`. -/
theorem pair_add_sub (c : Dev nD) (q : Fin 16) : pairOf c + q - pairOf c = q := by revert c q; decide +kernel

/-- The wait for the next arrival. -/
theorem step_recv {Q : α → sProp 𝕄} {R : sProp 𝕄} {k : PUnit → Prog (TpuEff nD τ sig (Elt F) Λ₀ .tc) α}
    {sp : Space} {sh : Shape} {e : EltTy} {src : Memref sig .tc sp sh e} {dst : Memref sig .tc .vmem S256x256 .bf16} {s : DmaSem sig}
    {h1 : src.view.WordExact} {h2 : dst.view.WordExact}
    (hdst : dst = oW (pairOf c + i16 r)) (hs : s = rcvS (pairOf c + i16 r))
    (h : iprop(St m ρ K c g x wa wb 16 sf sw o r ∗ R) ⊢ WP c (k ⟨⟩) Q)
    (h0 : 0 < r := by decide) (h16 : r < 16 := by decide) (hx : ¬ x < 3 := by decide) :
    iprop(St m ρ K c g x wa wb 16 sf sw o (r + 1) ∗ R) ⊢ WP c (.op (.waitDma2 s src dst h1 h2) k) Q := by
  subst hdst hs
  unfold St Rc
  rw [Rng_push h0]
  unfold rP rDn
  iintro ⟨⟨#HR, HOw, HStg, HG, HB, HP, HX, HW, HS, HO, ⟨⟨⟨Hc, Hat⟩, HrP⟩, HDn, Hown⟩⟩, HF⟩
  iapply (wait_rule m ρ K c (ck := .inr (.inr (.inr (.inr (pairOf c + i16 r))))) rfl
    (duties_rcv m ρ c (pairOf c + i16 r) fun e => i16_ne h0 h16 (pair_add_ne c _ e)) (amount_rcv m ρ c _ _ _) (NO_row _)
    (mayWait_end c _ hx)) $$ [Hc HOw Hat]
  · iframe
    iexact HR
  iintro ⟨HOw, Hat, -, Hpay⟩
  ihave Hh := (Entails.of_eq ((payload_rcv m ρ c (pairOf c + i16 r) 0 0).trans (by rw [pair_add_sub]))) $$ Hpay
  iapply h
  unfold St Rc
  rw [Rng_take h16]
  unfold rP rDn
  iframe
  iexact HR

/-- The unused load of the device's own rows, -/
theorem step_loado {Q : α → sProp 𝕄} {R : sProp 𝕄} {off : Fin 2 → ℕ} {hin : ∀ a, off a + S256x256.size a ≤ S4096x256.size a}
    {hl : (oM : Memref sig .tc .vmem S4096x256 .bf16).view.LoadsAt (Rect.unit (s := S4096x256) off S256x256.size hin).toLoadRect}
    {k : (S256x256.Idx → Elt F .bf16) → Prog (TpuEff nD τ sig (Elt F) Λ₀ .tc) α}
    (hoff : off = ![256 * (pairOf c).val, 0])
    (h : ∀ X, iprop(St m ρ K c g x wa wb sa sf sw 0 r ∗ R) ⊢ WP c (k X) Q) :
    iprop(St m ρ K c g x wa wb sa sf sw 0 r ∗ R)
      ⊢ WP c (.op (.load oM (Rect.unit (s := S4096x256) off S256x256.size hin).toLoadRect hl) k) Q := by
  subst hoff
  unfold St Oc
  rw [if_pos rfl]
  iintro ⟨⟨#HR, HOw, HStg, HG, HB, HP, HX, HW, HS, HO, HA⟩, HF⟩
  iapply (load_any c oM (Rect.unit (s := S4096x256) ![256 * (pairOf c).val, 0] S256x256.size hin) (fun _ => rfl)) $$ HO
  iintro %X HO
  iapply (h X)
  unfold St Oc
  rw [if_pos rfl]
  iframe
  iexact HR

/-- and the store of what the device computes for itself. -/
theorem step_storeo {Q : α → sProp 𝕄} {R : sProp 𝕄} {off : Fin 2 → ℕ} {hin : ∀ a, off a + S256x256.size a ≤ S4096x256.size a}
    {X : S256x256.Idx → Elt F .bf16} {hx : ((oM : Memref sig .tc .vmem S4096x256 .bf16).access (Rect.unit (s := S4096x256) off S256x256.size hin)).Stores Finset.univ}
    {hm : (Finset.univ : Finset (Rect.unit (s := S4096x256) off S256x256.size hin).shape.Idx) = Finset.univ ∨ ∀ a, (Rect.unit (s := S4096x256) off S256x256.size hin).stride a = 1}
    {k : PUnit → Prog (TpuEff nD τ sig (Elt F) Λ₀ .tc) α}
    (hoff : off = ![256 * (pairOf c).val, 0]) (hX : X = yBlk m ρ c 0)
    (h : iprop(St m ρ K c g x wa wb sa sf sw 1 r ∗ R) ⊢ WP c (k ⟨⟩) Q) :
    iprop(St m ρ K c g x wa wb sa sf sw 0 r ∗ R)
      ⊢ WP c (.op (.store oM (Rect.unit (s := S4096x256) off S256x256.size hin) X Finset.univ hx hm) k) Q := by
  subst hoff hX
  unfold St Oc
  rw [if_pos rfl]
  iintro ⟨⟨#HR, HOw, HStg, HG, HB, HP, HX, HW, HS, HO, HA⟩, HF⟩
  iapply (store_slice c oM (Rect.unit (s := S4096x256) ![256 * (pairOf c).val, 0] S256x256.size hin) (fun _ => rfl) (yBlk m ρ c 0)) $$ HO
  iintro HO
  iapply h
  unfold St Oc
  rw [if_neg Nat.one_ne_zero]
  iframe
  iexact HR

end Arrive

end Cert.AllToAll

end
-- ==== Proof.StepsS.lean ====
/-
The products being stored and sent.
-/
module

public import proofs.«01_k».proof.Proof.Rules

@[expose] public section

set_option maxRecDepth 8000

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ) (c : Dev nD)

/-! ## The products -/

section Send
variable {α : Type} {g x wa wb sa sf sw o r : ℕ}

/-- The load of the last block awaited. -/
theorem step_loadw {Q : α → sProp 𝕄} {R : sProp 𝕄} {off : Fin 3 → ℕ} {hin : ∀ a, off a + S1x4096x256.size a ≤ S8x4096x256.size a}
    {hl : (wrM : Memref sig .tc .vmem S8x4096x256 .f32).view.LoadsAt (Rect.unit (s := S8x4096x256) off S1x4096x256.size hin).toLoadRect}
    {k : (S1x4096x256.Idx → Elt F .f32) → Prog (TpuEff nD τ sig (Elt F) Λ₀ .tc) α}
    (hoff : off = ![(i8 wb).val, 0, 0])
    (h : iprop(St m ρ K c g x wa (wb + 1) sa sf sw o r ∗ R) ⊢ WP c (k (unsq squeezes_S1x4096x256_S4096x256.numel_eq (wBlk m c (i16 wb)))) Q)
    (hb : wa - 8 ≤ wb := by decide) :
    iprop(St m ρ K c g x wa (wb + 1) sa sf sw o r ∗ R)
      ⊢ WP c (.op (.load wrM (Rect.unit (s := S8x4096x256) off S1x4096x256.size hin).toLoadRect hl) k) Q := by
  subst hoff
  unfold St Wc
  rw [Rng_push hb]
  unfold wDn
  rw [holds_squeeze]
  iintro ⟨⟨#HR, HOw, HStg, HG, HB, HP, HX, ⟨HWP, HFr, HFl, ⟨⟨Hh, Hat, Hre⟩, HDn⟩⟩, HS, HO, HA⟩, HF⟩
  iapply (load_slice c wrM (Rect.unit (s := S8x4096x256) ![(i8 wb).val, 0, 0] S1x4096x256.size hin) (fun _ => rfl) fullShare
    (unsq squeezes_S1x4096x256_S4096x256.numel_eq (wBlk m c (i16 wb)))) $$ Hh
  iintro Hh
  iapply h
  unfold St Wc
  rw [Rng_push hb]
  unfold wDn
  rw [holds_squeeze]
  iframe
  iexact HR

/-- The unused load of the slot about to be written. -/
theorem step_loads {Q : α → sProp 𝕄} {R : sProp 𝕄} {off : Fin 3 → ℕ} {hin : ∀ a, off a + S1x256x256.size a ≤ S8x256x256.size a}
    {hl : (sbM : Memref sig .tc .vmem S8x256x256 .bf16).view.LoadsAt (Rect.unit (s := S8x256x256) off S1x256x256.size hin).toLoadRect}
    {k : (S1x256x256.Idx → Elt F .bf16) → Prog (TpuEff nD τ sig (Elt F) Λ₀ .tc) α}
    (hoff : off = ![(i8 sf).val, 0, 0])
    (h : ∀ X, iprop(St m ρ K c g x wa wb sa sf sw o r ∗ R) ⊢ WP c (k X) Q)
    (hf : sf < sw + 8 := by decide) :
    iprop(St m ρ K c g x wa wb sa sf sw o r ∗ R)
      ⊢ WP c (.op (.load sbM (Rect.unit (s := S8x256x256) off S1x256x256.size hin).toLoadRect hl) k) Q := by
  subst hoff
  unfold St Sc
  rw [Rng_take hf]
  unfold sFree
  rw [any_squeeze]
  iintro ⟨⟨#HR, HOw, HStg, HG, HB, HP, HX, HW, ⟨HSP, ⟨⟨Hh, Hat, Hre⟩, HFr⟩, HHo, HFl⟩, HO, HA⟩, HF⟩
  iapply (load_any c sbM (Rect.unit (s := S8x256x256) ![(i8 sf).val, 0, 0] S1x256x256.size hin) (fun _ => rfl)) $$ Hh
  iintro %X Hh
  iapply (h X)
  unfold St Sc
  rw [Rng_take hf]
  unfold sFree
  rw [any_squeeze]
  iframe
  iexact HR

/-- The store of the next product. -/
theorem step_stores {Q : α → sProp 𝕄} {R : sProp 𝕄} {off : Fin 3 → ℕ} {hin : ∀ a, off a + S1x256x256.size a ≤ S8x256x256.size a}
    {X : S1x256x256.Idx → Elt F .bf16} {hx : ((sbM : Memref sig .tc .vmem S8x256x256 .bf16).access (Rect.unit (s := S8x256x256) off S1x256x256.size hin)).Stores Finset.univ}
    {hm : (Finset.univ : Finset (Rect.unit (s := S8x256x256) off S1x256x256.size hin).shape.Idx) = Finset.univ ∨ ∀ a, (Rect.unit (s := S8x256x256) off S1x256x256.size hin).stride a = 1}
    {k : PUnit → Prog (TpuEff nD τ sig (Elt F) Λ₀ .tc) α}
    (hoff : off = ![(i8 sf).val, 0, 0])
    (hX : X = unsq squeezes_S1x256x256_S256x256.numel_eq (yBlk m ρ c (i16 sf)))
    (h : iprop(St m ρ K c g x wa wb sa (sf + 1) sw o r ∗ R) ⊢ WP c (k ⟨⟩) Q)
    (hf : sf < sw + 8 := by decide) (ha : sa ≤ sf := by decide) :
    iprop(St m ρ K c g x wa wb sa sf sw o r ∗ R)
      ⊢ WP c (.op (.store sbM (Rect.unit (s := S8x256x256) off S1x256x256.size hin) X Finset.univ hx hm) k) Q := by
  subst hoff hX
  unfold St Sc
  rw [Rng_take hf]
  unfold sFree
  rw [any_squeeze]
  iintro ⟨⟨#HR, HOw, HStg, HG, HB, HP, HX, HW, ⟨HSP, ⟨⟨Hh, Hat, Hre⟩, HFr⟩, HHo, HFl⟩, HO, HA⟩, HF⟩
  iapply (store_slice c sbM (Rect.unit (s := S8x256x256) ![(i8 sf).val, 0, 0] S1x256x256.size hin) (fun _ => rfl)
    (unsq squeezes_S1x256x256_S256x256.numel_eq (yBlk m ρ c (i16 sf)))) $$ Hh
  iintro Hh
  iapply h
  unfold St Sc
  rw [Rng_push ha]
  unfold sHold
  rw [holds_squeeze]
  iframe
  isplitr; · iexact HR
  iexact HFr

/-- Only the peer at distance 0 is in the device's own pair. -/
theorem pair_ne' (c : Dev nD) (t : Fin 16) : pairOf c = pairOf (peer c t) → t = 0 := by revert c t; decide +kernel
/-- A peer at a positive distance is in another pair. -/
theorem pair_ne {t : ℕ} (h : 0 < t) (h' : t < 16) : pairOf c ≠ pairOf (peer c (i16 t)) := fun e => i16_ne h h' (pair_ne' c _ e)

/-- The next product is sent. -/
theorem step_send {Q : α → sProp 𝕄} {R : sProp 𝕄} {d : Dev nD} {src : Memref sig .tc .vmem S256x256 .bf16} {dst : Memref sig .tc .vmem S256x256 .bf16} {s₁ s₂ : DmaSem sig}
    {hsc : (dst : Memref sig (Dev.tc d : Thread nD τ).2.kind .vmem S256x256 .bf16).view.ref.isScScratch = false}
    {h1 : src.view.WordExact} {h2 : dst.view.WordExact}
    {h3 : DmaTarget.Typed .vmem (.dma s₂) (DmaTarget.remote (p := (.tc : Proc τ)) (Dev.tc d : Thread nD τ) (dst : Memref sig (Dev.tc d : Thread nD τ).2.kind .vmem S256x256 .bf16) (.dma s₁) hsc)}
    {k : PUnit → Prog (TpuEff nD τ sig (Elt F) Λ₀ .tc) α}
    (hd : d = peer c (i16 sa)) (hsrc : src = sSl (i8 sa)) (hdst : dst = oW (pairOf c)) (hs₁ : s₁ = sndS (i8 sa)) (hs₂ : s₂ = rcvS (pairOf c))
    (h : iprop(St m ρ K c g x wa wb (sa + 1) sf sw o r ∗ R) ⊢ WP c (k ⟨⟩) Q)
    (h0 : 0 < sa := by decide) (h16 : sa < 16 := by decide) (hf : sa < sf := by decide) (hw : sw ≤ sa := by decide) (hx : ¬ x < 3 := by decide) :
    iprop(St m ρ K c g x wa wb sa sf sw o r ∗ R)
      ⊢ WP c (.op (.enqueueDma src (.remote (Dev.tc d : Thread nD τ) (dst : Memref sig (Dev.tc d : Thread nD τ).2.kind .vmem S256x256 .bf16) (.dma s₁) hsc) (.dma s₂) h1 h2 h3) k) Q := by
  subst hd hsrc hdst hs₁ hs₂
  unfold St Sc Pm
  rw [if_neg (by omega : ¬ x < 2), Rng_take h16, Rng_take h16, Rng_take hf, owed_send c h16 hx]
  unfold sP sHold pmI anyOwn holds owns
  iintro ⟨⟨#HR, ⟨%W, HOw⟩, HStg, HG, HB, ⟨⟨%fd, Hdst⟩, HP⟩, HX, HW, ⟨⟨⟨Ht1, Ht2⟩, HSP⟩, HFr, ⟨⟨⟨%fs, %hfs, Hsrc⟩, Hat, #Hre⟩, HHo⟩, HFl⟩, HO, HA⟩, HF⟩
  ihave #HI := (Rec_cell (F := F) m ρ K (c, .inr (.inr (.inr (.inl (i8 sa)))))) $$ HR
  icases HI with ⟨#HI, -⟩
  ihave #HJ := (Rec_cell (F := F) m ρ K (peer c (i16 sa), .inr (.inr (.inr (.inr (pairOf c)))))) $$ HR
  icases HJ with ⟨#HJ, #HJr⟩
  iapply (Rounds.wp_send_pointsTo 𝒱₀ ER (Rd m ρ) (c : Thread nD τ) none (κ₁ := K (c, .inr (.inr (.inr (.inl (i8 sa))))))
    (κ₂ := K (peer c (i16 sa), .inr (.inr (.inr (.inr (pairOf c))))))
    (r₁ := (sa - 1) / 8) (r₂ := 0) (d₁ := 0) (d₂ := 0) (fd := fd) (fs := fs)
    (by rw [duties_snd m ρ c _ _ (by omega) (by
          by_cases h9 : sa < 9
          · left; omega
          · right; intro e; have := congrArg Fin.val e; simp only [i8] at this; simp at this; omega)]; exact Finset.mem_singleton_self _)
    (by rw [duties_rcv m ρ _ _ (pair_ne c h0 h16)]; exact Finset.mem_singleton_self _)
    () () NO (by rw [View.amount_dma]; exact NO_row _) (amount_snd m ρ c _ _ _) (amount_rcv m ρ _ _ _ _) _ rfl (W := W)
    (by rw [payload_snd]; exact any_intro c (sSl (i8 sa)) fs)
    (by
      rw [payload_rcv, pairOf_peer, peer_neg, neg_neg16, hfs]
      exact written (peer c (i16 sa)) (oW (pairOf c)) fd (yBlk m ρ c (i16 sa)))) $$ [Hsrc Hdst HOw Ht1 Ht2]
  · isplitr; · iexact HI
    isplitr; · iexact HJ
    isplitl [Hsrc]; · iexact Hsrc
    isplitl [Hdst]; · iexact Hdst
    isplitl [HOw]; · iexact HOw
    isplitl [Ht1]; · iexact Ht1
    isplitr; · iexact Hre
    isplitl [Ht2]; · iexact Ht2
    iexact HJr
  iintro ⟨Hc, HOw⟩
  iapply h
  unfold St Sc Pm
  rw [if_neg (by omega : ¬ x < 2), Rng_push hw]
  unfold sFl
  iframe
  isplitr; · iexact HR
  isplitl [HOw]; · iexists W; iexact HOw
  isplitl [HP]; · iexact HP
  isplitl [HSP]; · iexact HSP
  iexact HHo

/-- The wait for the first send not yet known complete. -/
theorem step_waits {Q : α → sProp 𝕄} {R : sProp 𝕄} {k : PUnit → Prog (TpuEff nD τ sig (Elt F) Λ₀ .tc) α}
    {sp : Space} {sh : Shape} {e : EltTy} {src : Memref sig .tc sp sh e} {dst : Memref sig .tc .vmem S256x256 .bf16} {s : DmaSem sig}
    {h1 : src.view.WordExact} {h2 : dst.view.WordExact}
    (hdst : dst = sSl (i8 sw)) (hs : s = sndS (i8 sw))
    (h : iprop(St m ρ K c g x wa wb sa sf (sw + 1) o r ∗ R) ⊢ WP c (k ⟨⟩) Q)
    (h0 : 0 < sw := by decide) (h16 : sw < 16 := by decide) (hw : sw < sa := by decide) (hf : sf ≤ sw + 8 := by decide) (hx : ¬ x < 3 := by decide) :
    iprop(St m ρ K c g x wa wb sa sf sw o r ∗ R) ⊢ WP c (.op (.waitDma2 s src dst h1 h2) k) Q := by
  subst hdst hs
  have e8 : i8 (sw + 8) = i8 sw := Fin.ext (by simp only [i8]; omega)
  have ed : (sw + 8 - 1) / 8 = (sw - 1) / 8 + 1 := by omega
  unfold St Sc
  rw [Rng_take hw]
  unfold sFl
  iintro ⟨⟨#HR, HOw, HStg, HG, HB, HP, HX, HW, ⟨HSP, HFr, HHo, ⟨⟨Hc, Hat⟩, HFl⟩⟩, HO, HA⟩, HF⟩
  iapply (wait_rule m ρ K c (ck := .inr (.inr (.inr (.inl (i8 sw))))) rfl (duties_snd m ρ c (i8 sw) ((sw - 1) / 8) (by omega) (by
          by_cases h9 : sw < 9
          · left; omega
          · right; intro e; have := congrArg Fin.val e; simp only [i8] at this; simp at this; omega)) (amount_snd m ρ c _ _ _) (NO_slot _)
    (mayWait_late c _ hx (by rw [use_snd]; exact Nat.zero_le _))) $$ [Hc HOw Hat]
  · iframe
    iexact HR
  iintro ⟨HOw, Hat, Hre, Hpay⟩
  ihave Hh := (Entails.of_eq (payload_snd m ρ c (i8 sw) ((sw - 1) / 8) 0)) $$ Hpay
  iapply h
  unfold St Sc
  rw [show sw + 1 + 8 = (sw + 8) + 1 by omega, Rng_push hf]
  unfold sFree sFl
  rw [e8, ed]
  iframe
  iexact HR

end Send

end Cert.AllToAll

end
-- ==== Proof.StepsX.lean ====
/-
The exchange of rows and the barrier.
-/
module

public import proofs.«01_k».proof.Proof.Rules

@[expose] public section

set_option maxRecDepth 8000

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ) (c : Dev nD)

/-! ## The exchange of rows and the barrier -/

section Exchange
variable {α : Type} {g wa wb sa sf sw o r : ℕ}

/-- The offset of a whole two-dimensional array. -/
theorem zero2 : (![0, 0] : Fin 2 → Nat) = fun _ => 0 := funext fun a => by fin_cases a <;> rfl

/-- The load of the device's block of `x`. -/
theorem step_loadx {Q : α → sProp 𝕄} {R : sProp 𝕄} {x : ℕ} {hin : ∀ a, (![0, 0] : Fin 2 → ℕ) a + S128x4096.size a ≤ S128x4096.size a}
    {hl : (xM : Memref sig .tc .vmem S128x4096 .bf16).view.LoadsAt (Rect.unit (s := S128x4096) ![0, 0] S128x4096.size hin).toLoadRect}
    {k : (S128x4096.Idx → Elt F .bf16) → Prog (TpuEff nD τ sig (Elt F) Λ₀ .tc) α}
    (h : iprop(St m ρ K c g x wa wb sa sf sw o r ∗ R) ⊢ WP c (k (xstg m ρ c)) Q) :
    iprop(St m ρ K c g x wa wb sa sf sw o r ∗ R)
      ⊢ WP c (.op (.load xM (Rect.unit (s := S128x4096) ![0, 0] S128x4096.size hin).toLoadRect hl) k) Q := by
  unfold St
  iintro ⟨⟨#HR, HOw, HStg, HG, HB, HP, HX, HW, HS, HO, HA⟩, HF⟩
  iapply (wp_load 𝒱₀ (c : Thread nD τ) none Set.univ (m := xM) (Finset.subset_univ _)) $$ HStg
  iintro HStg
  rw [show (xM : Memref sig .tc .vmem S128x4096 .bf16).view.readAt (Elt F) (Rect.unit (s := S128x4096) ![0, 0] S128x4096.size hin).toLoadRect (xstg m ρ c) = xstg m ρ c from
    Memref.readAt_unit_zero (Elt F) cc0_stg0_0 zero2 _ _]
  iapply h
  unfold St
  iframe
  iexact HR

/-- The load of the pair's rows. -/
theorem step_loadxs {Q : α → sProp 𝕄} {R : sProp 𝕄} {hin : ∀ a, (![0, 0] : Fin 2 → ℕ) a + S256x4096.size a ≤ S256x4096.size a}
    {hl : (xsM : Memref sig .tc .vmem S256x4096 .bf16).view.LoadsAt (Rect.unit (s := S256x4096) ![0, 0] S256x4096.size hin).toLoadRect}
    {k : (S256x4096.Idx → Elt F .bf16) → Prog (TpuEff nD τ sig (Elt F) Λ₀ .tc) α}
    (h : iprop(St m ρ K c g 4 wa wb sa sf sw o r ∗ R) ⊢ WP c (k (xsAll m ρ c)) Q) :
    iprop(St m ρ K c g 4 wa wb sa sf sw o r ∗ R)
      ⊢ WP c (.op (.load xsM (Rect.unit (s := S256x4096) ![0, 0] S256x4096.size hin).toLoadRect hl) k) Q := by
  unfold St; simp only [Xc]
  iintro ⟨⟨#HR, HOw, HStg, HG, HB, HP, ⟨HX1, HX2, HX3, HX, HX4⟩, HW, HS, HO, HA⟩, HF⟩
  iapply (wp_load 𝒱₀ (c : Thread nD τ) none Set.univ (m := xsM) (Finset.subset_univ _)) $$ HX
  iintro HX
  rw [show (xsM : Memref sig .tc .vmem S256x4096 .bf16).view.readAt (Elt F) (Rect.unit (s := S256x4096) ![0, 0] S256x4096.size hin).toLoadRect (xsAll m ρ c) = xsAll m ρ c from
    Memref.readAt_unit_zero (Elt F) cc0_scratch0 zero2 _ _]
  iapply h
  unfold St; simp only [Xc]
  iframe
  iexact HR

/-- The unused load of the device's half of the row buffer, -/
theorem step_loadh {Q : α → sProp 𝕄} {R : sProp 𝕄} {off : Fin 2 → ℕ} {hin : ∀ a, off a + S128x4096.size a ≤ S256x4096.size a}
    {hl : (xsM : Memref sig .tc .vmem S256x4096 .bf16).view.LoadsAt (Rect.unit (s := S256x4096) off S128x4096.size hin).toLoadRect}
    {k : (S128x4096.Idx → Elt F .bf16) → Prog (TpuEff nD τ sig (Elt F) Λ₀ .tc) α}
    (hoff : off = k0_off3 c)
    (h : ∀ X, iprop(St m ρ K c g 0 wa wb sa sf sw o r ∗ R) ⊢ WP c (k X) Q) :
    iprop(St m ρ K c g 0 wa wb sa sf sw o r ∗ R)
      ⊢ WP c (.op (.load xsM (Rect.unit (s := S256x4096) off S128x4096.size hin).toLoadRect hl) k) Q := by
  subst hoff
  unfold St; simp only [Xc]
  iintro ⟨⟨#HR, HOw, HStg, HG, HB, HP, ⟨HX1, HX2, HX3, HX4, HX5, HX⟩, HW, HS, HO, HA⟩, HF⟩
  iapply (load_any c xsM (Rect.unit (s := S256x4096) (k0_off3 c) S128x4096.size hin) (fun _ => rfl)) $$ HX
  iintro %X HX
  iapply (h X)
  unfold St; simp only [Xc]
  iframe
  iexact HR

/-- and the store of the device's block there. -/
theorem step_storeh {Q : α → sProp 𝕄} {R : sProp 𝕄} {off : Fin 2 → ℕ} {hin : ∀ a, off a + S128x4096.size a ≤ S256x4096.size a}
    {X : S128x4096.Idx → Elt F .bf16} {hx : ((xsM : Memref sig .tc .vmem S256x4096 .bf16).access (Rect.unit (s := S256x4096) off S128x4096.size hin)).Stores Finset.univ}
    {hm : (Finset.univ : Finset (Rect.unit (s := S256x4096) off S128x4096.size hin).shape.Idx) = Finset.univ ∨ ∀ a, (Rect.unit (s := S256x4096) off S128x4096.size hin).stride a = 1}
    {k : PUnit → Prog (TpuEff nD τ sig (Elt F) Λ₀ .tc) α}
    (hoff : off = k0_off3 c) (hX : X = xstg m ρ c)
    (h : iprop(St m ρ K c g 1 wa wb sa sf sw o r ∗ R) ⊢ WP c (k ⟨⟩) Q) :
    iprop(St m ρ K c g 0 wa wb sa sf sw o r ∗ R)
      ⊢ WP c (.op (.store xsM (Rect.unit (s := S256x4096) off S128x4096.size hin) X Finset.univ hx hm) k) Q := by
  subst hoff hX
  unfold St; simp only [Xc]
  iintro ⟨⟨#HR, HOw, HStg, HG, HB, HP, ⟨HX1, HX2, HX3, HX4, HX5, HX⟩, HW, HS, HO, HA⟩, HF⟩
  iapply (store_slice c xsM (Rect.unit (s := S256x4096) (k0_off3 c) S128x4096.size hin) (fun _ => rfl) (xstg m ρ c)) $$ HX
  iintro HX
  iapply h
  unfold St; simp only [Xc]
  iframe
  isplitr; · iexact HR
  isplitl [HOw]; · iexact HOw
  isplitl [HB]; · iexact HB
  iexact HP

/-- A barrier signal. -/
theorem step_sig {Q : α → sProp 𝕄} {R : sProp 𝕄} {d : Dev nD} {s : Sem sig} {n : ℕ} {k : PUnit → Prog (TpuEff nD τ sig (Elt F) Λ₀ .tc) α}
    (hd : d = sigTo c (i16 g)) (hs : s = barS) (hn : n = 1)
    (h : iprop(St m ρ K c (g + 1) 1 wa wb sa sf sw o r ∗ R) ⊢ WP c (k ⟨⟩) Q)
    (hg : g < 16 := by decide) :
    iprop(St m ρ K c g 1 wa wb sa sf sw o r ∗ R) ⊢ WP c (.op (.semSignal (Dev.tc d : Thread nD τ) s n) k) Q := by
  subst hd hs hn
  unfold St
  rw [Rng_take hg, owed_sig c hg (by decide)]
  unfold sgI
  iintro ⟨⟨#HR, ⟨%W, HOw⟩, HStg, ⟨⟨Ht, Hp⟩, HG⟩, HB, HP, HX, HW, HS, HO, HA⟩, HF⟩
  ihave #HI := (Rec_cell (F := F) m ρ K (sigTo c (i16 g), .inl ())) $$ HR
  icases HI with ⟨#HI, #HIr⟩
  iapply (Rounds.wp_signal 𝒱₀ ER (Rd m ρ) (c : Thread nD τ) none (dst := (sigTo c (i16 g) : Thread nD τ)) (κ := K (sigTo c (i16 g), .inl ()))
      (r := 0) (d := -(i16 g)) (by rw [duties_bar]; exact Finset.mem_univ _) (amount_bar m ρ _ _ _) () _ rfl) $$ [HOw Ht Hp]
  · isplitr; · iexact HI
    isplitl [HOw]; · iexact HOw
    isplitl [Ht]; · iexact Ht
    isplitl [Hp]; · iexact Hp
    iexact HIr
  iintro HOw
  iapply h
  unfold St
  iframe
  isplitr; · iexact HR
  isplitl [HOw]; · iexists W; iexact HOw
  iexact HG

/-- A number from 1 to 15 is not zero when reduced. -/
theorem i16_one {t : ℕ} (h : 1 ≤ t) (h' : t < 16) : i16 t ≠ 0 := i16_ne h h'

/-- What the barrier's round hands over, in the order of the peers. -/
theorem rest_bar : (bigSep ((Rd m ρ).duties (bar c) 0 \ ∅) fun d => (Rd m ρ).payload (bar c) 0 d) = (iprop(anyOwn (partner c) (xsW c) ∗ Rng 1 16 (pmI c)) : sProp 𝕄) := by
  rw [Finset.sdiff_empty, duties_bar]
  have e : (bigSep Finset.univ fun d => (Rd m ρ).payload (bar c) 0 d) = (Rng 0 16 fun t => (Rd m ρ).payload (bar c) 0 (i16 t) : sProp 𝕄) := by
    rw [Rng_fin]; exact bigSep_congr fun i _ => by rw [i16_val]
  rw [e, Rng_take (by decide), payload_bar, if_pos (by decide)]
  rw [Rng_congr (Ψ := pmI c) fun i h1 h2 => by rw [payload_bar, if_neg (i16_ne h1 h2)]; rfl]

/-- The barrier wait. -/
theorem step_bar {Q : α → sProp 𝕄} {R : sProp 𝕄} {s : Sem sig} {n : ℕ} {k : PUnit → Prog (TpuEff nD τ sig (Elt F) Λ₀ .tc) α}
    (hs : s = barS) (hn : n = 16)
    (h : iprop(St m ρ K c 16 2 wa wb 1 sf sw o r ∗ R) ⊢ WP c (k ⟨⟩) Q) :
    iprop(St m ρ K c 16 1 wa wb 1 sf sw o r ∗ R) ⊢ WP c (.op (.semWait s n) k) Q := by
  subst hs hn
  unfold St Br Pm; simp only [Xc]
  rw [if_pos (by decide : 1 < 2), if_pos (by decide : 1 < 2)]
  have hw : Rec m ρ K ⊢ (MayWait (c : Thread nD τ) (.reg barS) () (owed c 16 1 1) : sProp 𝕄) := (@Rec_lev F _ m ρ K).trans (mayWait_bar c)
  iintro ⟨⟨#HR, ⟨%W, HOw⟩, HStg, HG, ⟨Hat, Hc⟩, -, ⟨HX1, HX2, HX3, HX4, HX5, HX⟩, HW, HS, HO, HA⟩, HF⟩
  ihave #HI := (Rec_cell (F := F) m ρ K (c, .inl ())) $$ HR
  icases HI with ⟨#HI, -⟩
  iapply (Rounds.wp_wait_rest_token 𝒱₀ ER (Rd m ρ) (c : Thread nD τ) none (κ := K (c, .inl ()))
      (wpE_semWait_eq 𝒱₀ (c : Thread nD τ) none Set.univ) (Set.mem_univ _) () (O := owed c 16 1 1) (W := W) (R := 0) (m := 0) (T := ∅)
      (by rw [expect_bar])) $$ [Hc HOw Hat]
  · isplitr; · iexact HI
    isplitl [Hc]; · iexact Hc
    isplitl [HOw]; · iexact HOw
    isplitr; · iapply hw; iexact HR
    iexact Hat
  iintro ⟨HOw, Hat, -, Hpay⟩
  ihave Hp := (Entails.of_eq (rest_bar m ρ c)) $$ Hpay
  icases Hp with ⟨Hx, HP⟩
  iapply h
  unfold St Br Pm; simp only [Xc]
  rw [if_neg (by decide : ¬ 2 < 2), if_neg (by decide : ¬ 2 < 2)]
  iframe
  isplitr; · iexact HR
  iexists _; iexact HOw

/-- The device's half goes to the partner. -/
theorem step_xsend {Q : α → sProp 𝕄} {R : sProp 𝕄} {d : Dev nD} {src : Memref sig .tc .vmem S128x4096 .bf16} {dst : Memref sig .tc .vmem S128x4096 .bf16} {s₁ s₂ : DmaSem sig}
    {hsc : (dst : Memref sig (Dev.tc d : Thread nD τ).2.kind .vmem S128x4096 .bf16).view.ref.isScScratch = false}
    {h1 : src.view.WordExact} {h2 : dst.view.WordExact}
    {h3 : DmaTarget.Typed .vmem (.dma s₂) (DmaTarget.remote (p := (.tc : Proc τ)) (Dev.tc d : Thread nD τ) (dst : Memref sig (Dev.tc d : Thread nD τ).2.kind .vmem S128x4096 .bf16) (.dma s₁) hsc)}
    {k : PUnit → Prog (TpuEff nD τ sig (Elt F) Λ₀ .tc) α}
    (hd : d = partner c) (hsrc : src = xsW c) (hdst : dst = xsW c) (hs₁ : s₁ = xsS) (hs₂ : s₂ = xrS)
    (h : iprop(St m ρ K c 16 3 wa wb 1 sf sw o r ∗ R) ⊢ WP c (k ⟨⟩) Q) :
    iprop(St m ρ K c 16 2 wa wb 1 sf sw o r ∗ R)
      ⊢ WP c (.op (.enqueueDma src (.remote (Dev.tc d : Thread nD τ) (dst : Memref sig (Dev.tc d : Thread nD τ).2.kind .vmem S128x4096 .bf16) (.dma s₁) hsc) (.dma s₂) h1 h2 h3) k) Q := by
  subst hd hsrc hdst hs₁ hs₂
  unfold St; simp only [Xc]
  rw [owed_x c]
  unfold anyOwn holds owns
  iintro ⟨⟨#HR, ⟨%W, HOw⟩, HStg, HG, HB, HP, ⟨Ht1, Ht2, HcR, HaR, HaS, ⟨%fs, %hfs, Hsrc⟩, ⟨%fd, Hdst⟩⟩, HW, HS, HO, HA⟩, HF⟩
  ihave #HI := (Rec_cell (F := F) m ρ K (c, .inr (.inr (.inl 0)))) $$ HR
  icases HI with ⟨#HI, #HIr⟩
  ihave #HJ := (Rec_cell (F := F) m ρ K (partner c, .inr (.inr (.inl 1)))) $$ HR
  icases HJ with ⟨#HJ, #HJr⟩
  ihave Hs := (pointsTo_share (PosShare.mem_left_op_right fullShare)).1 $$ Hsrc
  icases Hs with ⟨Hl, Hr⟩
  iapply (Rounds.wp_send_pointsTo 𝒱₀ ER (Rd m ρ) (c : Thread nD τ) none (κ₁ := K (c, .inr (.inr (.inl 0))))
    (κ₂ := K (partner c, .inr (.inr (.inl 1))))
    (r₁ := 0) (r₂ := 0) (d₁ := 0) (d₂ := 0) (fd := fd) (fs := fs)
    (by rw [duties_xs]; exact Finset.mem_singleton_self _)
    (by rw [duties_xr]; exact Finset.mem_singleton_self _)
    () () NX (by rw [View.amount_dma]; exact NX_half c) (amount_xs m ρ c _ _) (amount_xr m ρ _ _ _) _ rfl (W := W)
    (by rw [payload_xs]; exact holds_intro c (xsW c) fullShare.right fs (xstg m ρ c) hfs)
    (by
      rw [payload_xr, partner_partner, hfs]
      exact written (partner c) (xsW c) fd (xstg m ρ c))) $$ [Hr Hdst HOw Ht1 Ht2]
  · isplitr; · iexact HI
    isplitr; · iexact HJ
    isplitl [Hr]; · iexact Hr
    isplitl [Hdst]; · iexact Hdst
    isplitl [HOw]; · iexact HOw
    isplitl [Ht1]; · iexact Ht1
    isplitr; · iexact HIr
    isplitl [Ht2]; · iexact Ht2
    iexact HJr
  iintro ⟨Hc, HOw⟩
  ihave Hl := (holds_intro c (xsW c) fullShare.left fs (xstg m ρ c) hfs) $$ Hl
  iapply h
  unfold St; simp only [Xc]
  iframe
  isplitr; · iexact HR
  isplitl [HOw]; · iexists W; iexact HOw
  isplitl [HB]; · iexact HB
  iexact HP

/-- The wait for the partner's half. -/
theorem step_xr {Q : α → sProp 𝕄} {R : sProp 𝕄} {k : PUnit → Prog (TpuEff nD τ sig (Elt F) Λ₀ .tc) α}
    {sp : Space} {sh : Shape} {e : EltTy} {src : Memref sig .tc sp sh e} {dst : Memref sig .tc .vmem S128x4096 .bf16} {s : DmaSem sig}
    {h1 : src.view.WordExact} {h2 : dst.view.WordExact}
    (hdst : dst = xsW c) (hs : s = xrS)
    (h : iprop(St m ρ K c g 4 wa wb sa sf sw o r ∗ R) ⊢ WP c (k ⟨⟩) Q) :
    iprop(St m ρ K c g 3 wa wb sa sf sw o r ∗ R) ⊢ WP c (.op (.waitDma2 s src dst h1 h2) k) Q := by
  subst hdst hs
  unfold St; simp only [Xc]
  iintro ⟨⟨#HR, HOw, HStg, HG, HB, HP, ⟨Hc, Hat, HcS, HaS, Hl⟩, HW, HS, HO, HA⟩, HF⟩
  iapply (wait_rule m ρ K c (ck := .inr (.inr (.inl 1))) (s := xrS) rfl (duties_xr m ρ c) (amount_xr m ρ c _ _) (NX_half c)
    (mayWait_late c _ (g := g) (x := 3) (a := sa) (by decide) (by rw [use_xr]; exact Nat.le_refl _))) $$ [Hc HOw Hat]
  · iframe
    iexact HR
  iintro ⟨HOw, Hat, -, Hpay⟩
  ihave Hh := (Entails.of_eq (payload_xr m ρ c 0 0)) $$ Hpay
  ihave Hh := (holds_halve c (xsW (partner c)) (xstg m ρ (partner c))) $$ Hh
  icases Hh with ⟨HhL, HhR⟩
  ihave HX := (join_x m ρ c fullShare.left) $$ [Hl HhL]
  · iframe
  iapply h
  unfold St; simp only [Xc]
  rw [show owed c g 4 sa = owed c g 3 sa from rfl]
  iframe
  isplitr; · iexact HR
  isplitl [HB]; · iexact HB
  iexact HP

/-- The wait for the own half's transfer. -/
theorem step_xs {Q : α → sProp 𝕄} {R : sProp 𝕄} {k : PUnit → Prog (TpuEff nD τ sig (Elt F) Λ₀ .tc) α}
    {sp : Space} {sh : Shape} {e : EltTy} {src : Memref sig .tc sp sh e} {dst : Memref sig .tc .vmem S128x4096 .bf16} {s : DmaSem sig}
    {h1 : src.view.WordExact} {h2 : dst.view.WordExact}
    (hdst : dst = xsW c) (hs : s = xsS)
    (h : iprop(St m ρ K c g 5 wa wb sa sf sw o r ∗ R) ⊢ WP c (k ⟨⟩) Q) :
    iprop(St m ρ K c g 4 wa wb sa sf sw o r ∗ R) ⊢ WP c (.op (.waitDma2 s src dst h1 h2) k) Q := by
  subst hdst hs
  unfold St; simp only [Xc]
  iintro ⟨⟨#HR, HOw, HStg, HG, HB, HP, ⟨HaR, Hc, Hat, Hl, Hpr⟩, HW, HS, HO, HA⟩, HF⟩
  iapply (wait_rule m ρ K c (ck := .inr (.inr (.inl 0))) (s := xsS) rfl (duties_xs m ρ c) (amount_xs m ρ c _ _) (NX_half c)
    (mayWait_late c _ (g := g) (x := 4) (a := sa) (by decide) (by rw [use_xs]; exact Nat.zero_le _))) $$ [Hc HOw Hat]
  · iframe
    iexact HR
  iintro ⟨HOw, Hat, -, Hpay⟩
  ihave Hh := (Entails.of_eq (payload_xs m ρ c 0 0)) $$ Hpay
  ihave HXr := (join_x m ρ c fullShare.right) $$ [Hh Hpr]
  · iframe
  ihave HX := (pointsTo_share (PosShare.mem_left_op_right fullShare)).2 $$ [Hl HXr]
  · iframe
  iapply h
  unfold St; simp only [Xc]
  rw [show owed c g 5 sa = owed c g 4 sa from rfl]
  iframe
  isplitr; · iexact HR
  isplitl [HB]; · iexact HB
  isplitl [HP]; · iexact HP
  iexists _; iexact HX

end Exchange

end Cert.AllToAll

end
-- ==== Proof.StepsW.lean ====
/-
The blocks of w being fetched.
-/
module

public import proofs.«01_k».proof.Proof.Rules

@[expose] public section

set_option maxRecDepth 8000

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ) (c : Dev nD)

/-! ## The fetches -/

section Fetch
variable {α : Type} {g x wa wb sa sf sw o r : ℕ}

/-- A first fetch into a slot. -/
theorem step_fetch₀ {Q : α → sProp 𝕄} {R : sProp 𝕄} {k : PUnit → Prog (TpuEff nD τ sig (Elt F) Λ₀ .tc) α}
    {src : Memref sig .tc .hbm S4096x256 .f32} {dst : Memref sig .tc .vmem S4096x256 .f32} {s : DmaSem sig}
    {h1 : src.view.WordExact} {h2 : dst.view.WordExact} {h3 : DmaTarget.Typed .hbm (.dma s) (DmaTarget.here (nD := nD) (p := (.tc : Proc τ)) dst)}
    (hsrc : src = wCol c (i16 wa)) (hdst : dst = wSl (i8 wa)) (hs : s = wS (i8 wa))
    (h : iprop(St m ρ K c g x (wa + 1) wb sa sf sw o r ∗ R) ⊢ WP c (k ⟨⟩) Q)
    (hwa : wa < 8 := by decide) (hb : wb ≤ wa := by decide) :
    iprop(St m ρ K c g x wa wb sa sf sw o r ∗ R) ⊢ WP c (.op (.enqueueDma src (.here dst) (.dma s) h1 h2 h3) k) Q := by
  subst hsrc hdst hs
  unfold St Wc
  rw [Rng_take (by omega : wa < 16), Rng_take hwa]
  unfold wFree
  iintro ⟨⟨#HR, HOw, HStg, HG, HB, HP, HX, ⟨⟨HwP, HWP⟩, ⟨⟨Hany, Hat⟩, HFr⟩, HFl, HDn⟩, HS, HO, HA⟩, HF⟩
  ihave #Hre := (Rec_cell (F := F) m ρ K (c, .inr (.inl (i8 wa)))) $$ HR
  icases Hre with ⟨-, #Hre⟩
  iapply (fetch_rule m ρ K c wa (by omega)) $$ [HwP Hany]
  · isplitr; · iexact HR
    isplitl [HwP]; · iexact HwP
    isplitl [Hany]; · iexact Hany
    rw [show wa / 8 = 0 by omega]; iexact Hre
  iintro Hc
  iapply h
  unfold St Wc
  rw [Rng_push hb, show wa + 1 - 8 = wa - 8 by omega]
  unfold wFl
  iframe
  isplitr; · iexact HR
  iexact HFr

/-- A fetch into a slot whose block has been used. -/
theorem step_fetch₁ {Q : α → sProp 𝕄} {R : sProp 𝕄} {k : PUnit → Prog (TpuEff nD τ sig (Elt F) Λ₀ .tc) α}
    {src : Memref sig .tc .hbm S4096x256 .f32} {dst : Memref sig .tc .vmem S4096x256 .f32} {s : DmaSem sig}
    {h1 : src.view.WordExact} {h2 : dst.view.WordExact} {h3 : DmaTarget.Typed .hbm (.dma s) (DmaTarget.here (nD := nD) (p := (.tc : Proc τ)) dst)}
    (hsrc : src = wCol c (i16 wa)) (hdst : dst = wSl (i8 wa)) (hs : s = wS (i8 wa))
    (h : iprop(St m ρ K c g x (wa + 1) wb sa sf sw o r ∗ R) ⊢ WP c (k ⟨⟩) Q)
    (hwa : 8 ≤ wa := by decide) (hwa' : wa < 16 := by decide) (hb : wb ≤ wa := by decide) (hb' : wa - 8 < wb := by decide) :
    iprop(St m ρ K c g x wa wb sa sf sw o r ∗ R) ⊢ WP c (.op (.enqueueDma src (.here dst) (.dma s) h1 h2 h3) k) Q := by
  subst hsrc hdst hs
  have e8 : i8 (wa - 8) = i8 wa := Fin.ext (by simp only [i8]; omega)
  have ed : (wa - 8) / 8 + 1 = wa / 8 := by omega
  unfold St Wc
  rw [Rng_take hwa', Rng_take hb']
  unfold wDn
  rw [e8, ed]
  iintro ⟨⟨#HR, HOw, HStg, HG, HB, HP, HX, ⟨⟨HwP, HWP⟩, HFr, HFl, ⟨⟨Hh, Hat, #Hre⟩, HDn⟩⟩, HS, HO, HA⟩, HF⟩
  ihave Hany := (holds_any c (wSl (i8 wa)) _) $$ Hh
  iapply (fetch_rule m ρ K c wa hwa') $$ [HwP Hany]
  · isplitr; · iexact HR
    isplitl [HwP]; · iexact HwP
    isplitl [Hany]; · iexact Hany
    iexact Hre
  iintro Hc
  iapply h
  unfold St Wc
  rw [Rng_push hb, Rng_nil (show 8 ≤ wa by omega), Rng_nil (show 8 ≤ wa + 1 by omega), show wa - 8 + 1 = wa + 1 - 8 by omega]
  unfold wFl wDn
  iframe
  iexact HR

/-- The wait for the next block. -/
theorem step_waitw {Q : α → sProp 𝕄} {R : sProp 𝕄} {k : PUnit → Prog (TpuEff nD τ sig (Elt F) Λ₀ .tc) α}
    {sp : Space} {sh : Shape} {e : EltTy} {src : Memref sig .tc sp sh e} {dst : Memref sig .tc .vmem S4096x256 .f32} {s : DmaSem sig}
    {h1 : src.view.WordExact} {h2 : dst.view.WordExact}
    (hdst : dst = wSl (i8 wb)) (hs : s = wS (i8 wb))
    (h : iprop(St m ρ K c g x wa (wb + 1) sa sf sw o r ∗ R) ⊢ WP c (k ⟨⟩) Q)
    (hb : wb < wa := by decide) (ha : wb < 16 := by decide) (hb' : wa - 8 ≤ wb := by decide) (hx : ¬ x < 3 := by decide) :
    iprop(St m ρ K c g x wa wb sa sf sw o r ∗ R) ⊢ WP c (.op (.waitDma2 s src dst h1 h2) k) Q := by
  subst hdst hs
  unfold St Wc
  rw [Rng_take hb]
  unfold wFl
  iintro ⟨⟨#HR, HOw, HStg, HG, HB, HP, HX, ⟨HWP, HFr, ⟨⟨Hc, Hat⟩, HFl⟩, HDn⟩, HS, HO, HA⟩, HF⟩
  iapply (wait_rule m ρ K c (ck := .inr (.inl (i8 wb))) rfl (duties_w m ρ c (i8 wb) (wb / 8) (by omega)) (amount_w m ρ c _ _ _) (NW_slot _)
    (mayWait_late c _ hx (by rw [use_w]; exact Nat.zero_le _))) $$ [Hc HOw Hat]
  · iframe
    iexact HR
  iintro ⟨HOw, Hat, Hre, Hpay⟩
  ihave Hh := (Entails.of_eq ((payload_w m ρ c (i8 wb) (wb / 8) 0).trans (by rw [roundIx_i8 ha]))) $$ Hpay
  iapply h
  unfold St Wc
  rw [Rng_push hb']
  unfold wFl wDn
  iframe
  iexact HR

end Fetch

end Cert.AllToAll

end
-- ==== Proof.Glue.lean ====
/-
What the body names and computes.
-/
module

public import proofs.«01_k».proof.Proof.StepsR
public import proofs.«01_k».proof.Proof.StepsS
public import proofs.«01_k».proof.Proof.StepsX
public import proofs.«01_k».proof.Proof.StepsW

@[expose] public section

set_option maxRecDepth 8000

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The windows and semaphores the body names, at the positions it names them by -/

/-- A slice of the result at row `256 * k` is the result's block `k`. -/
theorem oW_of {off : Fin 2 → ℕ} {hin : ∀ a, off a + S256x256.size a ≤ S4096x256.size a} {k : Fin 16} (h : off = ![256 * k.val, 0]) :
    (oM.slice (Rect.unit (s := S4096x256) off S256x256.size hin) (fun _ => rfl) : Memref sig .tc .vmem S256x256 .bf16) = oW k := by
  subst h; rfl

/-- The arrival semaphore at position `k` is that of pair `k`. -/
theorem rcvS_of {off : Fin 1 → ℕ} {hin : ∀ a, off a + S1.size a ≤ S16.size a} {k : Fin 16} (h : off = ![k.val]) :
    ((cc0_scratch6.slice (Rect.unit (s := S16) off S1.size hin) : DmaSems sig S1).squeeze S_ squeezes_S1_S_).sem = rcvS k := by
  subst h; revert hin; revert k; decide +kernel

/-- The rows that are stored first are those that are copied to the partner. -/
theorem off1_own (c : Dev nD) : k0_off1 c = k0_off3 c := by revert c; decide +kernel
/-- The device's own product is stored in the rows of its pair. -/
theorem off4_own (c : Dev nD) : k0_off4 c = ![256 * (pairOf c).val, 0] := by revert c; decide +kernel
/-- The products that are sent land in the rows of the sender's pair. -/
theorem off6_own (c : Dev nD) : k0_off6 c = ![256 * (pairOf c).val, 0] := by revert c; decide +kernel
/-- The products that are sent count on the arrival semaphore of the sender's pair. -/
theorem off5_own (c : Dev nD) : k0_off5 c = ![(pairOf c).val] := by revert c; decide +kernel
/-- The wait for the pair at distance `q` is on that pair's arrival semaphore. -/
theorem off7_at (c : Dev nD) (q : Fin 16) (h : q ≠ 0) : k0_off7 c (BitVec.ofNat 32 q.val) = ![(pairOf c + q).val] := by revert c q; decide +kernel
/-- The wait for the pair at distance `q` is for that pair's rows. -/
theorem off8_at (c : Dev nD) (q : Fin 16) (h : q ≠ 0) : k0_off8 c (BitVec.ofNat 32 q.val) = ![256 * (pairOf c + q).val, 0] := by revert c q; decide +kernel
/-- The first signal goes to the partner. -/
theorem dev1_partner (c : Dev nD) : (⟨k0_dev1 c, k0_dev1_lt c⟩ : Dev nD) = partner c := by revert c; decide +kernel
/-- The copy of the rows goes to the partner. -/
theorem dev17_partner (c : Dev nD) : (⟨k0_dev17 c, k0_dev17_lt c⟩ : Dev nD) = partner c := by revert c; decide +kernel

/-- A device number that is the partner's is the target of signal 0. -/
theorem sigTo_zero (c : Dev nD) {d : ℕ} {hd : d < nD} (h : d = (partner c).val) : (⟨d, hd⟩ : Dev nD) = sigTo c (i16 0) := by
  subst h; rfl
/-- The device `t` pairs on, by its number. -/
theorem peer_of (c : Dev nD) (t : ℕ) {d : ℕ} {hd : d < nD} (h : d = (c.val + 2 * t) % 32) (ht : t < 16 := by decide) : (⟨d, hd⟩ : Dev nD) = peer c (i16 t) := by
  subst h; exact Fin.ext (by simp only [peer, i16, Nat.mod_eq_of_lt ht])
/-- A device number `2 * t` further on is the target of signal `t`. -/
theorem sigTo_of (c : Dev nD) (t : ℕ) {d : ℕ} {hd : d < nD} (h : d = (c.val + 2 * t) % 32) (h0 : 0 < t := by decide) (ht : t < 16 := by decide) :
    (⟨d, hd⟩ : Dev nD) = sigTo c (i16 t) := by
  rw [sigTo, if_neg (i16_ne h0 ht)]; exact peer_of c t h ht

/-! ## What the body computes -/

/-- Casting an array back to the shape it was unsqueezed from gives it back. -/
theorem cast_unsq {F : FTy → Type} [FloatOps F] {sh sh' : Shape} {e : EltTy} (h : sh'.numel = sh.numel) (X : sh'.Idx → Elt F e) (hc : sh.ShapeCasts sh') :
    shapeCast sh' (unsq h X) hc = X := by
  funext j; exact unsq_apply h X j

/-- The rows of `x` are stored as they are. -/
theorem pay_xs (X : Vec F S128x4096 .bf16) : k0_pay1 X = X := by
  unfold k0_pay1;
  have key : ∀ (Y : Vec F S128x4096 .bf16) (h : S128x4096.ShapeCasts S128x4096), shapeCast S128x4096 Y h = Y := fun Y h => by
    funext i; exact congrArg Y (Shape.reshapeEquiv_self _ i)
  exact (key _ _).trans (key _ _)

/-- A slot of the fetch ring is read as the block of `w` in it. -/
theorem pay_w (w : S4096x256.Idx → Elt F .f32) : k0_pay4 (unsq (e := .f32) squeezes_S1x4096x256_S4096x256.numel_eq w) = w := cast_unsq _ w _

/-- What the device stores for itself is the product with its own columns. -/
theorem pay_own (x : Vec F S256x4096 .bf16) (w : S4096x256.Idx → Elt F .f32) :
    k0_pay2 x (unsq (e := .f32) squeezes_S1x4096x256_S4096x256.numel_eq w) = dotY x w := by
  unfold k0_pay2 dotY; rw [cast_unsq (e := .f32)]

/-- A product is stored in the send ring with a leading axis of size one. -/
theorem pay_sq (y : S256x256.Idx → Elt F .bf16) : k0_pay9 y = unsq (e := .bf16) squeezes_S1x256x256_S256x256.numel_eq y := by
  funext i
  unfold k0_pay9 unsq
  rw [Shape.reshapeEquiv_symm]; rfl

/-- What goes into the send ring is the product with the fetched columns. -/
theorem pay_send (x : Vec F S256x4096 .bf16) (w : S4096x256.Idx → Elt F .f32) :
    k0_pay3 x (unsq (e := .f32) squeezes_S1x4096x256_S4096x256.numel_eq w) = unsq (e := .bf16) squeezes_S1x256x256_S256x256.numel_eq (dotY x w) :=
  (congrArg k0_pay9 (pay_own x w)).trans (pay_sq _)

/-- The product before it is rounded to sixteen bits. -/
def reluY (x : Vec F S256x4096 .bf16) (w : FVec F S4096x256 .f32) : FVec F S256x256 .f32 :=
  maximumf (matmul dot_S256x4096_S4096x256_S256x256_1_0_0_1_n_n none x (truncf .bf16 w bitsLt_bf16_f32)
    (constant S256x256 .f32 0x00000000#32)) (broadcast S256x256 (Scalar.ofBits .f32 0x00000000#32))

/-- The value carried over a cut of the body is the product with negative entries set to zero, before its cast. -/
theorem pay_relu (x : Vec F S256x4096 .bf16) (w : S4096x256.Idx → Elt F .f32) :
    k0_pay15 x (unsq (e := .f32) squeezes_S1x4096x256_S4096x256.numel_eq w) = reluY x w := by
  unfold k0_pay15 reluY; rw [cast_unsq (e := .f32)]

/-- The cast of that value is the product that is sent. -/
theorem pay_round (x : Vec F S256x4096 .bf16) (w : S4096x256.Idx → Elt F .f32) :
    k0_pay16 (reluY x w) = unsq (e := .bf16) squeezes_S1x256x256_S256x256.numel_eq (dotY x w) := pay_sq _

/-- The product of a block that was loaded before a cut of the body is the product that is sent. -/
theorem pay_split (x : Vec F S256x4096 .bf16) (w : S4096x256.Idx → Elt F .f32) :
    k0_pay5 x w = unsq (e := .bf16) squeezes_S1x256x256_S256x256.numel_eq (dotY x w) := pay_sq _

/-! ## Runs one after the other -/

/-- A run is the run of its first part, then of the rest. -/
theorem WP_seq {α β : Type} (c : Dev nD) {P : sProp 𝕄} {e : Prog (TpuEff nD τ sig (Elt F) Λ₀ .tc) α} {k : α → Prog (TpuEff nD τ sig (Elt F) Λ₀ .tc) β} {Q : β → sProp 𝕄}
    (h : P ⊢ WP c e (fun a => WP c (k a) Q)) : P ⊢ WP c (e >>= k) Q := by
  unfold WP at *
  rw [wp_bind]; exact h

/-- A finished run. -/
theorem WP_ret {α : Type} (c : Dev nD) {P : sProp 𝕄} {a : α} {Q : α → sProp 𝕄} (h : P ⊢ Q a) : P ⊢ WP c (.ret a) Q := by
  unfold WP
  rw [wp_ret]
  refine h.trans ?_
  iintro H; imodintro; iexact H

end Cert.AllToAll

end
-- ==== Proof.Parts1.lean ====
/-
The body, parts 1 to 8.
-/
module

public import proofs.«01_k».proof.Proof.Glue

@[expose] public section

set_option maxRecDepth 8000

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ) (c : Dev nD)

section
variable {h0 : (xM : Memref sig .tc .vmem S128x4096 .bf16).IsWhole} {h1 : (wM : Memref sig .tc .hbm S4096x8192 .f32).IsWhole}
  {h2 : (oM : Memref sig .tc .vmem S4096x256 .bf16).IsWhole} {h3 : (xsM : Memref sig .tc .vmem S256x4096 .bf16).IsWhole}
  {h4 : (wrM : Memref sig .tc .vmem S8x4096x256 .f32).IsWhole} {h5 : (sbM : Memref sig .tc .vmem S8x256x256 .bf16).IsWhole}

/-- Part 1 of the body: reads its rows, stores them. -/
theorem part1_runs {R : sProp 𝕄} {Q : _ → sProp 𝕄}
    (h : ∀ v1 v2 v3 v4 v5, iprop(St m ρ K c 0 1 0 0 1 1 1 0 16 ∗ R) ⊢ Q ⟨c, v1, v2, v3, v4, v5⟩) :
    iprop(St m ρ K c 0 0 0 0 1 1 1 0 16 ∗ R)
      ⊢ WP c (k0_part1 (F := F) xM h0 wM h1 oM h2 xsM h3 wrM h4 sbM h5 cc0_scratch3 cc0_scratch4 cc0_scratch5 cc0_scratch6) Q := by
  rw [k0_part1_eq_skeleton]; unfold k0_part1_skel
  simp only [semSignalWord, semWaitWord, Prog.lift, Prog.bind_op, Prog.bind_ret, Prog.pure_eq_ret]
  unfold WP
  rw [wp_deviceId]
  refine step_loadx m ρ K c ?_
  refine step_loadh m ρ K c (off1_own c) fun _ => ?_
  refine step_storeh m ρ K c (off1_own c) (pay_xs _) ?_
  exact WP_ret c (h _ _ _ _ _)

/-- Part 2 of the body: fetch 0, fetch 1, fetch 2. -/
theorem part2_runs {R : sProp 𝕄} {Q : _ → sProp 𝕄} {v2 : BitVec 32}
    (h : iprop(St m ρ K c 0 1 3 0 1 1 1 0 16 ∗ R) ⊢ Q ⟨⟩) :
    iprop(St m ρ K c 0 1 0 0 1 1 1 0 16 ∗ R)
      ⊢ WP c (k0_part2 (F := F) xM h0 wM h1 oM h2 xsM h3 wrM h4 sbM h5 cc0_scratch3 cc0_scratch4 cc0_scratch5 cc0_scratch6 c v2) Q := by
  rw [k0_part2_eq_skeleton]; unfold k0_part2_skel
  simp only [semSignalWord, semWaitWord, Prog.lift, Prog.bind_op, Prog.bind_ret, Prog.pure_eq_ret]
  refine step_fetch₀ m ρ K c rfl rfl rfl ?_
  refine step_fetch₀ m ρ K c rfl rfl rfl ?_
  refine step_fetch₀ m ρ K c rfl rfl rfl ?_
  exact WP_ret c (h)

/-- Part 3 of the body: fetch 3, fetch 4, fetch 5, fetch 6. -/
theorem part3_runs {R : sProp 𝕄} {Q : _ → sProp 𝕄} {v2 : BitVec 32}
    (h : iprop(St m ρ K c 0 1 7 0 1 1 1 0 16 ∗ R) ⊢ Q ⟨⟩) :
    iprop(St m ρ K c 0 1 3 0 1 1 1 0 16 ∗ R)
      ⊢ WP c (k0_part3 (F := F) xM h0 wM h1 oM h2 xsM h3 wrM h4 sbM h5 cc0_scratch3 cc0_scratch4 cc0_scratch5 cc0_scratch6 c v2) Q := by
  rw [k0_part3_eq_skeleton]; unfold k0_part3_skel
  simp only [semSignalWord, semWaitWord, Prog.lift, Prog.bind_op, Prog.bind_ret, Prog.pure_eq_ret]
  refine step_fetch₀ m ρ K c rfl rfl rfl ?_
  refine step_fetch₀ m ρ K c rfl rfl rfl ?_
  refine step_fetch₀ m ρ K c rfl rfl rfl ?_
  refine step_fetch₀ m ρ K c rfl rfl rfl ?_
  exact WP_ret c (h)

/-- Part 4 of the body: fetch 7, signal 0, signal 1, signal 2, signal 3, signal 4. -/
theorem part4_runs {R : sProp 𝕄} {Q : _ → sProp 𝕄} {v2 v6 : BitVec 32}
    (h : ∀ v1, iprop(St m ρ K c 5 1 8 0 1 1 1 0 16 ∗ R) ⊢ Q ⟨SemArray.scalar (sig.barrier 0 rfl), v1⟩) :
    iprop(St m ρ K c 0 1 7 0 1 1 1 0 16 ∗ R)
      ⊢ WP c (k0_part4 (F := F) xM h0 wM h1 oM h2 xsM h3 wrM h4 sbM h5 cc0_scratch3 cc0_scratch4 cc0_scratch5 cc0_scratch6 c v2 v6) Q := by
  rw [k0_part4_eq_skeleton]; unfold k0_part4_skel
  simp only [semSignalWord, semWaitWord, Prog.lift, Prog.bind_op, Prog.bind_ret, Prog.pure_eq_ret]
  refine step_fetch₀ m ρ K c rfl rfl rfl ?_
  refine step_sig m ρ K c (dev1_partner c) rfl rfl ?_
  refine step_sig m ρ K c (sigTo_of c 1 (k0_dev2_eq c)) rfl rfl ?_
  refine step_sig m ρ K c (sigTo_of c 2 (k0_dev3_eq c)) rfl rfl ?_
  refine step_sig m ρ K c (sigTo_of c 3 (k0_dev4_eq c)) rfl rfl ?_
  refine step_sig m ρ K c (sigTo_of c 4 (k0_dev5_eq c)) rfl rfl ?_
  exact WP_ret c (h _)

/-- Part 5 of the body: signal 5, signal 6, signal 7, signal 8, signal 9, signal 10. -/
theorem part5_runs {R : sProp 𝕄} {Q : _ → sProp 𝕄} {v2 v118 : BitVec 32}
    (h : ∀ v1, iprop(St m ρ K c 11 1 8 0 1 1 1 0 16 ∗ R) ⊢ Q v1) :
    iprop(St m ρ K c 5 1 8 0 1 1 1 0 16 ∗ R)
      ⊢ WP c (k0_part5 (F := F) xM h0 wM h1 oM h2 xsM h3 wrM h4 sbM h5 cc0_scratch3 cc0_scratch4 cc0_scratch5 cc0_scratch6 c v2 (SemArray.scalar (sig.barrier 0 rfl)) v118) Q := by
  rw [k0_part5_eq_skeleton]; unfold k0_part5_skel
  simp only [semSignalWord, semWaitWord, Prog.lift, Prog.bind_op, Prog.bind_ret, Prog.pure_eq_ret]
  refine step_sig m ρ K c (sigTo_of c 5 (k0_dev6_eq c)) rfl rfl ?_
  refine step_sig m ρ K c (sigTo_of c 6 (k0_dev7_eq c)) rfl rfl ?_
  refine step_sig m ρ K c (sigTo_of c 7 (k0_dev8_eq c)) rfl rfl ?_
  refine step_sig m ρ K c (sigTo_of c 8 (k0_dev9_eq c)) rfl rfl ?_
  refine step_sig m ρ K c (sigTo_of c 9 (k0_dev10_eq c)) rfl rfl ?_
  refine step_sig m ρ K c (sigTo_of c 10 (k0_dev11_eq c)) rfl rfl ?_
  exact WP_ret c (h _)

/-- Part 6 of the body: signal 11, signal 12, signal 13, signal 14, signal 15, the barrier wait. -/
theorem part6_runs {R : sProp 𝕄} {Q : _ → sProp 𝕄} {v2 v3 v6 v142 : BitVec 32}
    (h : iprop(St m ρ K c 16 2 8 0 1 1 1 0 16 ∗ R) ⊢ Q ⟨⟩) :
    iprop(St m ρ K c 11 1 8 0 1 1 1 0 16 ∗ R)
      ⊢ WP c (k0_part6 (F := F) xM h0 wM h1 oM h2 xsM h3 wrM h4 sbM h5 cc0_scratch3 cc0_scratch4 cc0_scratch5 cc0_scratch6 c v2 v3 v6 (SemArray.scalar (sig.barrier 0 rfl)) v142) Q := by
  rw [k0_part6_eq_skeleton]; unfold k0_part6_skel
  simp only [semSignalWord, semWaitWord, Prog.lift, Prog.bind_op, Prog.bind_ret, Prog.pure_eq_ret]
  refine step_sig m ρ K c (sigTo_of c 11 (k0_dev12_eq c)) rfl rfl ?_
  refine step_sig m ρ K c (sigTo_of c 12 (k0_dev13_eq c)) rfl rfl ?_
  refine step_sig m ρ K c (sigTo_of c 13 (k0_dev14_eq c)) rfl rfl ?_
  refine step_sig m ρ K c (sigTo_of c 14 (k0_dev15_eq c)) rfl rfl ?_
  refine step_sig m ρ K c (sigTo_of c 15 (k0_dev16_eq c)) rfl rfl ?_
  refine step_bar m ρ K c rfl rfl ?_
  exact WP_ret c (h)

/-- Part 7 of the body: the rows to the partner, wait for the partner's rows, wait for block 0, its own rows of the result. -/
theorem part7_runs {R : sProp 𝕄} {Q : _ → sProp 𝕄} {v2 v6 v26 : BitVec 32}
    (h : ∀ v1, iprop(St m ρ K c 16 4 8 1 1 1 1 1 16 ∗ R) ⊢ Q ⟨v1, 32#32⟩) :
    iprop(St m ρ K c 16 2 8 0 1 1 1 0 16 ∗ R)
      ⊢ WP c (k0_part7 (F := F) xM h0 wM h1 oM h2 xsM h3 wrM h4 sbM h5 cc0_scratch3 cc0_scratch4 cc0_scratch5 cc0_scratch6 c v2 v6 v26) Q := by
  rw [k0_part7_eq_skeleton]; unfold k0_part7_skel
  simp only [semSignalWord, semWaitWord, Prog.lift, Prog.bind_op, Prog.bind_ret, Prog.pure_eq_ret]
  refine step_xsend m ρ K c (dev17_partner c) rfl rfl rfl rfl ?_
  refine step_xr m ρ K c rfl rfl ?_
  refine step_waitw m ρ K c rfl rfl ?_
  refine step_loadxs m ρ K c ?_
  refine step_loadw m ρ K c rfl ?_
  refine step_loado m ρ K c (off4_own c) fun _ => ?_
  refine step_storeo m ρ K c (off4_own c) (pay_own _ _) ?_
  exact WP_ret c (h _)

/-- Part 8 of the body: fetch 8, wait for block 1, product 1. -/
theorem part8_runs {R : sProp 𝕄} {Q : _ → sProp 𝕄} {v2 v195 c32_i32_166 : BitVec 32}
    (h : ∀ v1, iprop(St m ρ K c 16 4 9 2 1 2 1 1 16 ∗ R) ⊢ Q ⟨v1, 1#32⟩) :
    iprop(St m ρ K c 16 4 8 1 1 1 1 1 16 ∗ R)
      ⊢ WP c (k0_part8 (F := F) xM h0 wM h1 oM h2 xsM h3 wrM h4 sbM h5 cc0_scratch3 cc0_scratch4 cc0_scratch5 cc0_scratch6 c v2 v195 c32_i32_166) Q := by
  rw [k0_part8_eq_skeleton]; unfold k0_part8_skel
  simp only [semSignalWord, semWaitWord, Prog.lift, Prog.bind_op, Prog.bind_ret, Prog.pure_eq_ret]
  refine step_fetch₁ m ρ K c rfl rfl rfl ?_
  refine step_waitw m ρ K c rfl rfl ?_
  refine step_loadxs m ρ K c ?_
  refine step_loadw m ρ K c rfl ?_
  refine step_loads m ρ K c rfl fun _ => ?_
  refine step_stores m ρ K c rfl (pay_send _ _) ?_
  exact WP_ret c (h _)

end

end Cert.AllToAll

end
-- ==== Proof.Parts2.lean ====
/-
The body, parts 9 to 14.
-/
module

public import proofs.«01_k».proof.Proof.Glue

@[expose] public section

set_option maxRecDepth 8000

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ) (c : Dev nD)

section
variable {h0 : (xM : Memref sig .tc .vmem S128x4096 .bf16).IsWhole} {h1 : (wM : Memref sig .tc .hbm S4096x8192 .f32).IsWhole}
  {h2 : (oM : Memref sig .tc .vmem S4096x256 .bf16).IsWhole} {h3 : (xsM : Memref sig .tc .vmem S256x4096 .bf16).IsWhole}
  {h4 : (wrM : Memref sig .tc .vmem S8x4096x256 .f32).IsWhole} {h5 : (sbM : Memref sig .tc .vmem S8x256x256 .bf16).IsWhole}

/-- Part 9 of the body: send 1, fetch 9, wait for block 2. -/
theorem part9_runs {R : sProp 𝕄} {Q : _ → sProp 𝕄} {v2 v204 c1_i32_194 : BitVec 32}
    (h : ∀ v1, iprop(St m ρ K c 16 4 10 3 2 2 1 1 16 ∗ R) ⊢ Q ⟨v1, xsAll m ρ c, wBlk m c (i16 2)⟩) :
    iprop(St m ρ K c 16 4 9 2 1 2 1 1 16 ∗ R)
      ⊢ WP c (k0_part9 (F := F) xM h0 wM h1 oM h2 xsM h3 wrM h4 sbM h5 cc0_scratch3 cc0_scratch4 cc0_scratch5 cc0_scratch6 c v2 v204 c1_i32_194) Q := by
  rw [k0_part9_eq_skeleton]; unfold k0_part9_skel
  simp only [semSignalWord, semWaitWord, Prog.lift, Prog.bind_op, Prog.bind_ret, Prog.pure_eq_ret]
  refine step_send m ρ K c (peer_of c 1 (k0_dev18_eq c)) rfl (oW_of (off6_own c)) rfl (rcvS_of (off5_own c)) ?_
  refine step_fetch₁ m ρ K c rfl rfl rfl ?_
  refine step_waitw m ρ K c rfl rfl ?_
  refine step_loadxs m ρ K c ?_
  refine step_loadw m ρ K c rfl ?_
  refine WP_ret c ?_
  rw [show k0_pay4 (unsq (e := .f32) squeezes_S1x4096x256_S4096x256.numel_eq (wBlk m c (i16 2))) = wBlk m c (i16 2) from pay_w _]
  exact h _

/-- Part 10 of the body: product 2, send 2, fetch 10. -/
theorem part10_runs {R : sProp 𝕄} {Q : _ → sProp 𝕄} {v2 v242 : BitVec 32}
    (h : ∀ v1, iprop(St m ρ K c 16 4 11 3 3 3 1 1 16 ∗ R) ⊢ Q v1) :
    iprop(St m ρ K c 16 4 10 3 2 2 1 1 16 ∗ R)
      ⊢ WP c (k0_part10 (F := F) xM h0 wM h1 oM h2 xsM h3 wrM h4 sbM h5 cc0_scratch3 cc0_scratch4 cc0_scratch5 cc0_scratch6 c v2 v242 (xsAll m ρ c) (wBlk m c (i16 2))) Q := by
  rw [k0_part10_eq_skeleton]; unfold k0_part10_skel
  simp only [semSignalWord, semWaitWord, Prog.lift, Prog.bind_op, Prog.bind_ret, Prog.pure_eq_ret]
  refine step_loads m ρ K c rfl fun _ => ?_
  refine step_stores m ρ K c rfl (pay_split _ _) ?_
  refine step_send m ρ K c (peer_of c 2 (k0_dev19_eq c)) rfl (oW_of (off6_own c)) rfl (rcvS_of (off5_own c)) ?_
  refine step_fetch₁ m ρ K c rfl rfl rfl ?_
  exact WP_ret c (h _)

/-- Part 11 of the body: wait for block 3, product 3, send 3. -/
theorem part11_runs {R : sProp 𝕄} {Q : _ → sProp 𝕄} {v2 v280 : BitVec 32}
    (h : iprop(St m ρ K c 16 4 11 4 4 4 1 1 16 ∗ R) ⊢ Q ⟨⟩) :
    iprop(St m ρ K c 16 4 11 3 3 3 1 1 16 ∗ R)
      ⊢ WP c (k0_part11 (F := F) xM h0 wM h1 oM h2 xsM h3 wrM h4 sbM h5 cc0_scratch3 cc0_scratch4 cc0_scratch5 cc0_scratch6 c v2 v280) Q := by
  rw [k0_part11_eq_skeleton]; unfold k0_part11_skel
  simp only [semSignalWord, semWaitWord, Prog.lift, Prog.bind_op, Prog.bind_ret, Prog.pure_eq_ret]
  refine step_waitw m ρ K c rfl rfl ?_
  refine step_loadxs m ρ K c ?_
  refine step_loadw m ρ K c rfl ?_
  refine step_loads m ρ K c rfl fun _ => ?_
  refine step_stores m ρ K c rfl (pay_send _ _) ?_
  refine step_send m ρ K c (peer_of c 3 (k0_dev20_eq c)) rfl (oW_of (off6_own c)) rfl (rcvS_of (off5_own c)) ?_
  exact WP_ret c (h)

/-- Part 12 of the body: fetch 11, wait for block 4, product 4. -/
theorem part12_runs {R : sProp 𝕄} {Q : _ → sProp 𝕄} {v2 : BitVec 32}
    (h : iprop(St m ρ K c 16 4 12 5 4 5 1 1 16 ∗ R) ⊢ Q ⟨⟩) :
    iprop(St m ρ K c 16 4 11 4 4 4 1 1 16 ∗ R)
      ⊢ WP c (k0_part12 (F := F) xM h0 wM h1 oM h2 xsM h3 wrM h4 sbM h5 cc0_scratch3 cc0_scratch4 cc0_scratch5 cc0_scratch6 c v2) Q := by
  rw [k0_part12_eq_skeleton]; unfold k0_part12_skel
  simp only [semSignalWord, semWaitWord, Prog.lift, Prog.bind_op, Prog.bind_ret, Prog.pure_eq_ret]
  refine step_fetch₁ m ρ K c rfl rfl rfl ?_
  refine step_waitw m ρ K c rfl rfl ?_
  refine step_loadxs m ρ K c ?_
  refine step_loadw m ρ K c rfl ?_
  refine step_loads m ρ K c rfl fun _ => ?_
  refine step_stores m ρ K c rfl (pay_send _ _) ?_
  exact WP_ret c (h)

/-- Part 13 of the body: send 4, fetch 12, wait for block 5. -/
theorem part13_runs {R : sProp 𝕄} {Q : _ → sProp 𝕄} {v2 : BitVec 32}
    (h : ∀ v1, iprop(St m ρ K c 16 4 13 6 5 5 1 1 16 ∗ R) ⊢ Q ⟨v1, yBlk m ρ c (i16 5)⟩) :
    iprop(St m ρ K c 16 4 12 5 4 5 1 1 16 ∗ R)
      ⊢ WP c (k0_part13 (F := F) xM h0 wM h1 oM h2 xsM h3 wrM h4 sbM h5 cc0_scratch3 cc0_scratch4 cc0_scratch5 cc0_scratch6 c v2) Q := by
  rw [k0_part13_eq_skeleton]; unfold k0_part13_skel
  simp only [semSignalWord, semWaitWord, Prog.lift, Prog.bind_op, Prog.bind_ret, Prog.pure_eq_ret]
  refine step_send m ρ K c (peer_of c 4 (k0_dev21_eq c)) rfl (oW_of (off6_own c)) rfl (rcvS_of (off5_own c)) ?_
  refine step_fetch₁ m ρ K c rfl rfl rfl ?_
  refine step_waitw m ρ K c rfl rfl ?_
  refine step_loadxs m ρ K c ?_
  refine step_loadw m ρ K c rfl ?_
  refine WP_ret c ?_
  rw [show k0_pay8 (xsAll m ρ c) (unsq (e := .f32) squeezes_S1x4096x256_S4096x256.numel_eq (wBlk m c (i16 5))) = yBlk m ρ c (i16 5) from pay_own _ _]
  exact h _

/-- Part 14 of the body: product 5, send 5, fetch 13, wait for block 6. -/
theorem part14_runs {R : sProp 𝕄} {Q : _ → sProp 𝕄} {v2 v356 : BitVec 32}
    (h : ∀ v1, iprop(St m ρ K c 16 4 14 7 6 6 1 1 16 ∗ R) ⊢ Q v1) :
    iprop(St m ρ K c 16 4 13 6 5 5 1 1 16 ∗ R)
      ⊢ WP c (k0_part14 (F := F) xM h0 wM h1 oM h2 xsM h3 wrM h4 sbM h5 cc0_scratch3 cc0_scratch4 cc0_scratch5 cc0_scratch6 c v2 v356 (yBlk m ρ c (i16 5))) Q := by
  rw [k0_part14_eq_skeleton]; unfold k0_part14_skel
  simp only [semSignalWord, semWaitWord, Prog.lift, Prog.bind_op, Prog.bind_ret, Prog.pure_eq_ret]
  refine step_loads m ρ K c rfl fun _ => ?_
  refine step_stores m ρ K c rfl (pay_sq _) ?_
  refine step_send m ρ K c (peer_of c 5 (k0_dev22_eq c)) rfl (oW_of (off6_own c)) rfl (rcvS_of (off5_own c)) ?_
  refine step_fetch₁ m ρ K c rfl rfl rfl ?_
  refine step_waitw m ρ K c rfl rfl ?_
  exact WP_ret c (h _)

end

end Cert.AllToAll

end
-- ==== Proof.Parts3.lean ====
/-
The body, parts 15 to 20.
-/
module

public import proofs.«01_k».proof.Proof.Glue

@[expose] public section

set_option maxRecDepth 8000

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ) (c : Dev nD)

section
variable {h0 : (xM : Memref sig .tc .vmem S128x4096 .bf16).IsWhole} {h1 : (wM : Memref sig .tc .hbm S4096x8192 .f32).IsWhole}
  {h2 : (oM : Memref sig .tc .vmem S4096x256 .bf16).IsWhole} {h3 : (xsM : Memref sig .tc .vmem S256x4096 .bf16).IsWhole}
  {h4 : (wrM : Memref sig .tc .vmem S8x4096x256 .f32).IsWhole} {h5 : (sbM : Memref sig .tc .vmem S8x256x256 .bf16).IsWhole}

/-- Part 15 of the body: product 6, send 6, fetch 14. -/
theorem part15_runs {R : sProp 𝕄} {Q : _ → sProp 𝕄} {v2 v394 : BitVec 32}
    (h : ∀ v1, iprop(St m ρ K c 16 4 15 7 7 7 1 1 16 ∗ R) ⊢ Q v1) :
    iprop(St m ρ K c 16 4 14 7 6 6 1 1 16 ∗ R)
      ⊢ WP c (k0_part15 (F := F) xM h0 wM h1 oM h2 xsM h3 wrM h4 sbM h5 cc0_scratch3 cc0_scratch4 cc0_scratch5 cc0_scratch6 c v2 v394) Q := by
  rw [k0_part15_eq_skeleton]; unfold k0_part15_skel
  simp only [semSignalWord, semWaitWord, Prog.lift, Prog.bind_op, Prog.bind_ret, Prog.pure_eq_ret]
  refine step_loadxs m ρ K c ?_
  refine step_loadw m ρ K c rfl ?_
  refine step_loads m ρ K c rfl fun _ => ?_
  refine step_stores m ρ K c rfl (pay_send _ _) ?_
  refine step_send m ρ K c (peer_of c 6 (k0_dev23_eq c)) rfl (oW_of (off6_own c)) rfl (rcvS_of (off5_own c)) ?_
  refine step_fetch₁ m ρ K c rfl rfl rfl ?_
  exact WP_ret c (h _)

/-- Part 16 of the body: wait for block 7, product 7, send 7. -/
theorem part16_runs {R : sProp 𝕄} {Q : _ → sProp 𝕄} {v2 v432 : BitVec 32}
    (h : ∀ v1, iprop(St m ρ K c 16 4 15 8 8 8 1 1 16 ∗ R) ⊢ Q v1) :
    iprop(St m ρ K c 16 4 15 7 7 7 1 1 16 ∗ R)
      ⊢ WP c (k0_part16 (F := F) xM h0 wM h1 oM h2 xsM h3 wrM h4 sbM h5 cc0_scratch3 cc0_scratch4 cc0_scratch5 cc0_scratch6 c v2 v432) Q := by
  rw [k0_part16_eq_skeleton]; unfold k0_part16_skel
  simp only [semSignalWord, semWaitWord, Prog.lift, Prog.bind_op, Prog.bind_ret, Prog.pure_eq_ret]
  refine step_waitw m ρ K c rfl rfl ?_
  refine step_loadxs m ρ K c ?_
  refine step_loadw m ρ K c rfl ?_
  refine step_loads m ρ K c rfl fun _ => ?_
  refine step_stores m ρ K c rfl (pay_send _ _) ?_
  refine step_send m ρ K c (peer_of c 7 (k0_dev24_eq c)) rfl (oW_of (off6_own c)) rfl (rcvS_of (off5_own c)) ?_
  exact WP_ret c (h _)

/-- Part 17 of the body: fetch 15, wait for block 8, product 8. -/
theorem part17_runs {R : sProp 𝕄} {Q : _ → sProp 𝕄} {v2 v462 : BitVec 32}
    (h : ∀ v1, iprop(St m ρ K c 16 4 16 9 8 9 1 1 16 ∗ R) ⊢ Q v1) :
    iprop(St m ρ K c 16 4 15 8 8 8 1 1 16 ∗ R)
      ⊢ WP c (k0_part17 (F := F) xM h0 wM h1 oM h2 xsM h3 wrM h4 sbM h5 cc0_scratch3 cc0_scratch4 cc0_scratch5 cc0_scratch6 c v2 v462) Q := by
  rw [k0_part17_eq_skeleton]; unfold k0_part17_skel
  simp only [semSignalWord, semWaitWord, Prog.lift, Prog.bind_op, Prog.bind_ret, Prog.pure_eq_ret]
  refine step_fetch₁ m ρ K c rfl rfl rfl ?_
  refine step_waitw m ρ K c rfl rfl ?_
  refine step_loadxs m ρ K c ?_
  refine step_loadw m ρ K c rfl ?_
  refine step_loads m ρ K c rfl fun _ => ?_
  refine step_stores m ρ K c rfl (pay_send _ _) ?_
  exact WP_ret c (h _)

/-- Part 18 of the body: send 8, wait for block 9. -/
theorem part18_runs {R : sProp 𝕄} {Q : _ → sProp 𝕄} {v2 v490 : BitVec 32}
    (h : ∀ v1, iprop(St m ρ K c 16 4 16 10 9 9 1 1 16 ∗ R) ⊢ Q ⟨v1, yBlk m ρ c (i16 9)⟩) :
    iprop(St m ρ K c 16 4 16 9 8 9 1 1 16 ∗ R)
      ⊢ WP c (k0_part18 (F := F) xM h0 wM h1 oM h2 xsM h3 wrM h4 sbM h5 cc0_scratch3 cc0_scratch4 cc0_scratch5 cc0_scratch6 c v2 v490) Q := by
  rw [k0_part18_eq_skeleton]; unfold k0_part18_skel
  simp only [semSignalWord, semWaitWord, Prog.lift, Prog.bind_op, Prog.bind_ret, Prog.pure_eq_ret]
  refine step_send m ρ K c (peer_of c 8 (k0_dev25_eq c)) rfl (oW_of (off6_own c)) rfl (rcvS_of (off5_own c)) ?_
  refine step_waitw m ρ K c rfl rfl ?_
  refine step_loadxs m ρ K c ?_
  refine step_loadw m ρ K c rfl ?_
  refine WP_ret c ?_
  rw [show k0_pay13 (xsAll m ρ c) (unsq (e := .f32) squeezes_S1x4096x256_S4096x256.numel_eq (wBlk m c (i16 9))) = yBlk m ρ c (i16 9) from pay_own _ _]
  exact h _

/-- Part 19 of the body: wait for send 1, product 9, send 9, wait for block 10. -/
theorem part19_runs {R : sProp 𝕄} {Q : _ → sProp 𝕄} {v2 v500 : BitVec 32}
    (h : ∀ v1, iprop(St m ρ K c 16 4 16 11 10 10 2 1 16 ∗ R) ⊢ Q ⟨v1, reluY (xsAll m ρ c) (wBlk m c (i16 10))⟩) :
    iprop(St m ρ K c 16 4 16 10 9 9 1 1 16 ∗ R)
      ⊢ WP c (k0_part19 (F := F) xM h0 wM h1 oM h2 xsM h3 wrM h4 sbM h5 cc0_scratch3 cc0_scratch4 cc0_scratch5 cc0_scratch6 c v2 v500 (yBlk m ρ c (i16 9))) Q := by
  rw [k0_part19_eq_skeleton]; unfold k0_part19_skel
  simp only [semSignalWord, semWaitWord, Prog.lift, Prog.bind_op, Prog.bind_ret, Prog.pure_eq_ret]
  refine step_waits m ρ K c rfl rfl ?_
  refine step_loads m ρ K c rfl fun _ => ?_
  refine step_stores m ρ K c rfl (pay_sq _) ?_
  refine step_send m ρ K c (peer_of c 9 (k0_dev26_eq c)) rfl (oW_of (off6_own c)) rfl (rcvS_of (off5_own c)) ?_
  refine step_waitw m ρ K c rfl rfl ?_
  refine step_loadxs m ρ K c ?_
  refine step_loadw m ρ K c rfl ?_
  refine WP_ret c ?_
  rw [show k0_pay15 (xsAll m ρ c) (unsq (e := .f32) squeezes_S1x4096x256_S4096x256.numel_eq (wBlk m c (i16 10))) = reluY (xsAll m ρ c) (wBlk m c (i16 10)) from pay_relu _ _]
  exact h _

/-- Part 20 of the body: wait for send 2, product 10, send 10, wait for block 11. -/
theorem part20_runs {R : sProp 𝕄} {Q : _ → sProp 𝕄} {v2 v535 : BitVec 32}
    (h : ∀ v1, iprop(St m ρ K c 16 4 16 12 11 11 3 1 16 ∗ R) ⊢ Q v1) :
    iprop(St m ρ K c 16 4 16 11 10 10 2 1 16 ∗ R)
      ⊢ WP c (k0_part20 (F := F) xM h0 wM h1 oM h2 xsM h3 wrM h4 sbM h5 cc0_scratch3 cc0_scratch4 cc0_scratch5 cc0_scratch6 c v2 v535 (reluY (xsAll m ρ c) (wBlk m c (i16 10)))) Q := by
  rw [k0_part20_eq_skeleton]; unfold k0_part20_skel
  simp only [semSignalWord, semWaitWord, Prog.lift, Prog.bind_op, Prog.bind_ret, Prog.pure_eq_ret]
  refine step_waits m ρ K c rfl rfl ?_
  refine step_loads m ρ K c rfl fun _ => ?_
  refine step_stores m ρ K c rfl (pay_round _ _) ?_
  refine step_send m ρ K c (peer_of c 10 (k0_dev27_eq c)) rfl (oW_of (off6_own c)) rfl (rcvS_of (off5_own c)) ?_
  refine step_waitw m ρ K c rfl rfl ?_
  exact WP_ret c (h _)

end

end Cert.AllToAll

end
-- ==== Proof.Parts4.lean ====
/-
The body, parts 21 to 26.
-/
module

public import proofs.«01_k».proof.Proof.Glue

@[expose] public section

set_option maxRecDepth 8000

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ) (c : Dev nD)

section
variable {h0 : (xM : Memref sig .tc .vmem S128x4096 .bf16).IsWhole} {h1 : (wM : Memref sig .tc .hbm S4096x8192 .f32).IsWhole}
  {h2 : (oM : Memref sig .tc .vmem S4096x256 .bf16).IsWhole} {h3 : (xsM : Memref sig .tc .vmem S256x4096 .bf16).IsWhole}
  {h4 : (wrM : Memref sig .tc .vmem S8x4096x256 .f32).IsWhole} {h5 : (sbM : Memref sig .tc .vmem S8x256x256 .bf16).IsWhole}

/-- Part 21 of the body: wait for send 3, product 11, send 11. -/
theorem part21_runs {R : sProp 𝕄} {Q : _ → sProp 𝕄} {v2 v570 : BitVec 32}
    (h : ∀ v1, iprop(St m ρ K c 16 4 16 12 12 12 4 1 16 ∗ R) ⊢ Q v1) :
    iprop(St m ρ K c 16 4 16 12 11 11 3 1 16 ∗ R)
      ⊢ WP c (k0_part21 (F := F) xM h0 wM h1 oM h2 xsM h3 wrM h4 sbM h5 cc0_scratch3 cc0_scratch4 cc0_scratch5 cc0_scratch6 c v2 v570) Q := by
  rw [k0_part21_eq_skeleton]; unfold k0_part21_skel
  simp only [semSignalWord, semWaitWord, Prog.lift, Prog.bind_op, Prog.bind_ret, Prog.pure_eq_ret]
  refine step_loadxs m ρ K c ?_
  refine step_loadw m ρ K c rfl ?_
  refine step_waits m ρ K c rfl rfl ?_
  refine step_loads m ρ K c rfl fun _ => ?_
  refine step_stores m ρ K c rfl (pay_send _ _) ?_
  refine step_send m ρ K c (peer_of c 11 (k0_dev28_eq c)) rfl (oW_of (off6_own c)) rfl (rcvS_of (off5_own c)) ?_
  exact WP_ret c (h _)

/-- Part 22 of the body: wait for block 12, wait for send 4, product 12. -/
theorem part22_runs {R : sProp 𝕄} {Q : _ → sProp 𝕄} {v605 : BitVec 32}
    (h : iprop(St m ρ K c 16 4 16 13 12 13 5 1 16 ∗ R) ⊢ Q ⟨⟩) :
    iprop(St m ρ K c 16 4 16 12 12 12 4 1 16 ∗ R)
      ⊢ WP c (k0_part22 (F := F) xM h0 wM h1 oM h2 xsM h3 wrM h4 sbM h5 cc0_scratch3 cc0_scratch4 cc0_scratch5 cc0_scratch6 c v605) Q := by
  rw [k0_part22_eq_skeleton]; unfold k0_part22_skel
  simp only [semSignalWord, semWaitWord, Prog.lift, Prog.bind_op, Prog.bind_ret, Prog.pure_eq_ret]
  refine step_waitw m ρ K c rfl rfl ?_
  refine step_loadxs m ρ K c ?_
  refine step_loadw m ρ K c rfl ?_
  refine step_waits m ρ K c rfl rfl ?_
  refine step_loads m ρ K c rfl fun _ => ?_
  refine step_stores m ρ K c rfl (pay_send _ _) ?_
  exact WP_ret c (h)

/-- Part 23 of the body: send 12, wait for block 13, wait for send 5, product 13. -/
theorem part23_runs {R : sProp 𝕄} {Q : _ → sProp 𝕄} {v2 : BitVec 32}
    (h : ∀ v1, iprop(St m ρ K c 16 4 16 14 13 14 6 1 16 ∗ R) ⊢ Q v1) :
    iprop(St m ρ K c 16 4 16 13 12 13 5 1 16 ∗ R)
      ⊢ WP c (k0_part23 (F := F) xM h0 wM h1 oM h2 xsM h3 wrM h4 sbM h5 cc0_scratch3 cc0_scratch4 cc0_scratch5 cc0_scratch6 c v2) Q := by
  rw [k0_part23_eq_skeleton]; unfold k0_part23_skel
  simp only [semSignalWord, semWaitWord, Prog.lift, Prog.bind_op, Prog.bind_ret, Prog.pure_eq_ret]
  refine step_send m ρ K c (peer_of c 12 (k0_dev29_eq c)) rfl (oW_of (off6_own c)) rfl (rcvS_of (off5_own c)) ?_
  refine step_waitw m ρ K c rfl rfl ?_
  refine step_loadxs m ρ K c ?_
  refine step_loadw m ρ K c rfl ?_
  refine step_waits m ρ K c rfl rfl ?_
  refine step_loads m ρ K c rfl fun _ => ?_
  refine step_stores m ρ K c rfl (pay_send _ _) ?_
  exact WP_ret c (h _)

/-- Part 24 of the body: send 13, wait for block 14. -/
theorem part24_runs {R : sProp 𝕄} {Q : _ → sProp 𝕄} {v2 v665 : BitVec 32}
    (h : ∀ v1, iprop(St m ρ K c 16 4 16 15 14 14 6 1 16 ∗ R) ⊢ Q ⟨v1, yBlk m ρ c (i16 14)⟩) :
    iprop(St m ρ K c 16 4 16 14 13 14 6 1 16 ∗ R)
      ⊢ WP c (k0_part24 (F := F) xM h0 wM h1 oM h2 xsM h3 wrM h4 sbM h5 cc0_scratch3 cc0_scratch4 cc0_scratch5 cc0_scratch6 c v2 v665) Q := by
  rw [k0_part24_eq_skeleton]; unfold k0_part24_skel
  simp only [semSignalWord, semWaitWord, Prog.lift, Prog.bind_op, Prog.bind_ret, Prog.pure_eq_ret]
  refine step_send m ρ K c (peer_of c 13 (k0_dev30_eq c)) rfl (oW_of (off6_own c)) rfl (rcvS_of (off5_own c)) ?_
  refine step_waitw m ρ K c rfl rfl ?_
  refine step_loadxs m ρ K c ?_
  refine step_loadw m ρ K c rfl ?_
  refine WP_ret c ?_
  rw [show k0_pay20 (xsAll m ρ c) (unsq (e := .f32) squeezes_S1x4096x256_S4096x256.numel_eq (wBlk m c (i16 14))) = yBlk m ρ c (i16 14) from pay_own _ _]
  exact h _

/-- Part 25 of the body: wait for send 6, product 14, send 14, wait for block 15. -/
theorem part25_runs {R : sProp 𝕄} {Q : _ → sProp 𝕄} {v2 v675 : BitVec 32}
    (h : ∀ v1, iprop(St m ρ K c 16 4 16 16 15 15 7 1 16 ∗ R) ⊢ Q ⟨v1, reluY (xsAll m ρ c) (wBlk m c (i16 15))⟩) :
    iprop(St m ρ K c 16 4 16 15 14 14 6 1 16 ∗ R)
      ⊢ WP c (k0_part25 (F := F) xM h0 wM h1 oM h2 xsM h3 wrM h4 sbM h5 cc0_scratch3 cc0_scratch4 cc0_scratch5 cc0_scratch6 c v2 v675 (yBlk m ρ c (i16 14))) Q := by
  rw [k0_part25_eq_skeleton]; unfold k0_part25_skel
  simp only [semSignalWord, semWaitWord, Prog.lift, Prog.bind_op, Prog.bind_ret, Prog.pure_eq_ret]
  refine step_waits m ρ K c rfl rfl ?_
  refine step_loads m ρ K c rfl fun _ => ?_
  refine step_stores m ρ K c rfl (pay_sq _) ?_
  refine step_send m ρ K c (peer_of c 14 (k0_dev31_eq c)) rfl (oW_of (off6_own c)) rfl (rcvS_of (off5_own c)) ?_
  refine step_waitw m ρ K c rfl rfl ?_
  refine step_loadxs m ρ K c ?_
  refine step_loadw m ρ K c rfl ?_
  refine WP_ret c ?_
  rw [show k0_pay22 (xsAll m ρ c) (unsq (e := .f32) squeezes_S1x4096x256_S4096x256.numel_eq (wBlk m c (i16 15))) = reluY (xsAll m ρ c) (wBlk m c (i16 15)) from pay_relu _ _]
  exact h _

/-- Part 26 of the body: wait for send 7, product 15, send 15, wait for its own rows to be gone, wait for send 8. -/
theorem part26_runs {R : sProp 𝕄} {Q : _ → sProp 𝕄} {v710 : BitVec 32}
    (h : iprop(St m ρ K c 16 5 16 16 16 16 9 1 16 ∗ R) ⊢ Q ⟨⟩) :
    iprop(St m ρ K c 16 4 16 16 15 15 7 1 16 ∗ R)
      ⊢ WP c (k0_part26 (F := F) xM h0 wM h1 oM h2 xsM h3 wrM h4 sbM h5 cc0_scratch3 cc0_scratch4 cc0_scratch5 cc0_scratch6 c v710 (reluY (xsAll m ρ c) (wBlk m c (i16 15)))) Q := by
  rw [k0_part26_eq_skeleton]; unfold k0_part26_skel
  simp only [semSignalWord, semWaitWord, Prog.lift, Prog.bind_op, Prog.bind_ret, Prog.pure_eq_ret]
  refine step_waits m ρ K c rfl rfl ?_
  refine step_loads m ρ K c rfl fun _ => ?_
  refine step_stores m ρ K c rfl (pay_round _ _) ?_
  refine step_send m ρ K c (peer_of c 15 (k0_dev32_eq c)) rfl (oW_of (off6_own c)) rfl (rcvS_of (off5_own c)) ?_
  refine step_xs m ρ K c rfl rfl ?_
  refine step_waits m ρ K c rfl rfl ?_
  exact WP_ret c (h)

end

end Cert.AllToAll

end
-- ==== Proof.Parts5.lean ====
/-
The body, parts 27 to 32.
-/
module

public import proofs.«01_k».proof.Proof.Glue

@[expose] public section

set_option maxRecDepth 8000

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ) (c : Dev nD)

section
variable {h0 : (xM : Memref sig .tc .vmem S128x4096 .bf16).IsWhole} {h1 : (wM : Memref sig .tc .hbm S4096x8192 .f32).IsWhole}
  {h2 : (oM : Memref sig .tc .vmem S4096x256 .bf16).IsWhole} {h3 : (xsM : Memref sig .tc .vmem S256x4096 .bf16).IsWhole}
  {h4 : (wrM : Memref sig .tc .vmem S8x4096x256 .f32).IsWhole} {h5 : (sbM : Memref sig .tc .vmem S8x256x256 .bf16).IsWhole}

/-- Part 27 of the body: wait for send 9, wait for send 10, wait for send 11, wait for send 12, wait for send 13. -/
theorem part27_runs {R : sProp 𝕄} {Q : _ → sProp 𝕄}
    (h : iprop(St m ρ K c 16 5 16 16 16 16 14 1 16 ∗ R) ⊢ Q ⟨⟩) :
    iprop(St m ρ K c 16 5 16 16 16 16 9 1 16 ∗ R)
      ⊢ WP c (k0_part27 (F := F) xM h0 wM h1 oM h2 xsM h3 wrM h4 sbM h5 cc0_scratch3 cc0_scratch4 cc0_scratch5 cc0_scratch6 c) Q := by
  rw [k0_part27_eq_skeleton]; unfold k0_part27_skel
  simp only [semSignalWord, semWaitWord, Prog.lift, Prog.bind_op, Prog.bind_ret, Prog.pure_eq_ret]
  refine step_waits m ρ K c rfl rfl ?_
  refine step_waits m ρ K c rfl rfl ?_
  refine step_waits m ρ K c rfl rfl ?_
  refine step_waits m ρ K c rfl rfl ?_
  refine step_waits m ρ K c rfl rfl ?_
  exact WP_ret c (h)

/-- Part 28 of the body: wait for send 14, wait for send 15, arrival 15. -/
theorem part28_runs {R : sProp 𝕄} {Q : _ → sProp 𝕄} {v2 v24 : BitVec 32}
    (h : iprop(St m ρ K c 16 5 16 16 16 16 16 1 15 ∗ R) ⊢ Q ⟨⟩) :
    iprop(St m ρ K c 16 5 16 16 16 16 14 1 16 ∗ R)
      ⊢ WP c (k0_part28 (F := F) xM h0 wM h1 oM h2 xsM h3 wrM h4 sbM h5 cc0_scratch3 cc0_scratch4 cc0_scratch5 cc0_scratch6 c v2 v24) Q := by
  rw [k0_part28_eq_skeleton]; unfold k0_part28_skel
  simp only [semSignalWord, semWaitWord, Prog.lift, Prog.bind_op, Prog.bind_ret, Prog.pure_eq_ret]
  refine step_waits m ρ K c rfl rfl ?_
  refine step_waits m ρ K c rfl rfl ?_
  refine step_recv m ρ K c (oW_of (off8_at c 15 (by decide))) (rcvS_of (off7_at c 15 (by decide))) ?_
  exact WP_ret c (h)

/-- Part 29 of the body: arrival 14, arrival 13, arrival 12. -/
theorem part29_runs {R : sProp 𝕄} {Q : _ → sProp 𝕄} {v2 v24 : BitVec 32}
    (h : iprop(St m ρ K c 16 5 16 16 16 16 16 1 12 ∗ R) ⊢ Q ⟨⟩) :
    iprop(St m ρ K c 16 5 16 16 16 16 16 1 15 ∗ R)
      ⊢ WP c (k0_part29 (F := F) xM h0 wM h1 oM h2 xsM h3 wrM h4 sbM h5 cc0_scratch3 cc0_scratch4 cc0_scratch5 cc0_scratch6 c v2 v24) Q := by
  rw [k0_part29_eq_skeleton]; unfold k0_part29_skel
  simp only [semSignalWord, semWaitWord, Prog.lift, Prog.bind_op, Prog.bind_ret, Prog.pure_eq_ret]
  refine step_recv m ρ K c (oW_of (off8_at c 14 (by decide))) (rcvS_of (off7_at c 14 (by decide))) ?_
  refine step_recv m ρ K c (oW_of (off8_at c 13 (by decide))) (rcvS_of (off7_at c 13 (by decide))) ?_
  refine step_recv m ρ K c (oW_of (off8_at c 12 (by decide))) (rcvS_of (off7_at c 12 (by decide))) ?_
  exact WP_ret c (h)

/-- Part 30 of the body: arrival 11, arrival 10, arrival 9. -/
theorem part30_runs {R : sProp 𝕄} {Q : _ → sProp 𝕄} {v2 v24 : BitVec 32}
    (h : ∀ v1, iprop(St m ρ K c 16 5 16 16 16 16 16 1 9 ∗ R) ⊢ Q v1) :
    iprop(St m ρ K c 16 5 16 16 16 16 16 1 12 ∗ R)
      ⊢ WP c (k0_part30 (F := F) xM h0 wM h1 oM h2 xsM h3 wrM h4 sbM h5 cc0_scratch3 cc0_scratch4 cc0_scratch5 cc0_scratch6 c v2 v24) Q := by
  rw [k0_part30_eq_skeleton]; unfold k0_part30_skel
  simp only [semSignalWord, semWaitWord, Prog.lift, Prog.bind_op, Prog.bind_ret, Prog.pure_eq_ret]
  refine step_recv m ρ K c (oW_of (off8_at c 11 (by decide))) (rcvS_of (off7_at c 11 (by decide))) ?_
  refine step_recv m ρ K c (oW_of (off8_at c 10 (by decide))) (rcvS_of (off7_at c 10 (by decide))) ?_
  refine step_recv m ρ K c (oW_of (off8_at c 9 (by decide))) (rcvS_of (off7_at c 9 (by decide))) ?_
  exact WP_ret c (h _)

/-- Part 31 of the body: arrival 8, arrival 7, arrival 6. -/
theorem part31_runs {R : sProp 𝕄} {Q : _ → sProp 𝕄} {v2 v24 v861 : BitVec 32}
    (h : iprop(St m ρ K c 16 5 16 16 16 16 16 1 6 ∗ R) ⊢ Q ⟨⟩) :
    iprop(St m ρ K c 16 5 16 16 16 16 16 1 9 ∗ R)
      ⊢ WP c (k0_part31 (F := F) xM h0 wM h1 oM h2 xsM h3 wrM h4 sbM h5 cc0_scratch3 cc0_scratch4 cc0_scratch5 cc0_scratch6 c v2 v24 v861) Q := by
  rw [k0_part31_eq_skeleton]; unfold k0_part31_skel
  simp only [semSignalWord, semWaitWord, Prog.lift, Prog.bind_op, Prog.bind_ret, Prog.pure_eq_ret]
  refine step_recv m ρ K c (oW_of (off8_at c 8 (by decide))) (rcvS_of (off7_at c 8 (by decide))) ?_
  refine step_recv m ρ K c (oW_of (off8_at c 7 (by decide))) (rcvS_of (off7_at c 7 (by decide))) ?_
  refine step_recv m ρ K c (oW_of (off8_at c 6 (by decide))) (rcvS_of (off7_at c 6 (by decide))) ?_
  exact WP_ret c (h)

/-- Part 32 of the body: arrival 5, arrival 4, arrival 3. -/
theorem part32_runs {R : sProp 𝕄} {Q : _ → sProp 𝕄} {v2 v24 : BitVec 32}
    (h : ∀ v1, iprop(St m ρ K c 16 5 16 16 16 16 16 1 3 ∗ R) ⊢ Q v1) :
    iprop(St m ρ K c 16 5 16 16 16 16 16 1 6 ∗ R)
      ⊢ WP c (k0_part32 (F := F) xM h0 wM h1 oM h2 xsM h3 wrM h4 sbM h5 cc0_scratch3 cc0_scratch4 cc0_scratch5 cc0_scratch6 c v2 v24) Q := by
  rw [k0_part32_eq_skeleton]; unfold k0_part32_skel
  simp only [semSignalWord, semWaitWord, Prog.lift, Prog.bind_op, Prog.bind_ret, Prog.pure_eq_ret]
  refine step_recv m ρ K c (oW_of (off8_at c 5 (by decide))) (rcvS_of (off7_at c 5 (by decide))) ?_
  refine step_recv m ρ K c (oW_of (off8_at c 4 (by decide))) (rcvS_of (off7_at c 4 (by decide))) ?_
  refine step_recv m ρ K c (oW_of (off8_at c 3 (by decide))) (rcvS_of (off7_at c 3 (by decide))) ?_
  exact WP_ret c (h _)

end

end Cert.AllToAll

end
-- ==== Proof.Run.lean ====
/-
All statements of the kernel in order.
-/
module

public import proofs.«01_k».proof.Proof.Parts1
public import proofs.«01_k».proof.Proof.Parts2
public import proofs.«01_k».proof.Proof.Parts3
public import proofs.«01_k».proof.Proof.Parts4
public import proofs.«01_k».proof.Proof.Parts5

@[expose] public section

set_option maxRecDepth 8000

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ) (c : Dev nD)

/-! ## All statements of the kernel, in order -/

section
variable {h0 : xM.IsWhole} {h1 : wM.IsWhole} {h2 : oM.IsWhole} {h3 : xsM.IsWhole} {h4 : wrM.IsWhole} {h5 : sbM.IsWhole}

set_option maxHeartbeats 1000000 in
/-- The statements up to the last but one, part after part. -/
theorem part33_runs {R : sProp 𝕄} {Q : _ → sProp 𝕄}
    (h : ∀ v1, iprop(St m ρ K c 16 5 16 16 16 16 16 1 2 ∗ R) ⊢ Q ⟨c, v1, 0#32⟩) :
    iprop(St m ρ K c 0 0 0 0 1 1 1 0 16 ∗ R)
      ⊢ WP c (k0_part33 (F := F) xM h0 wM h1 oM h2 xsM h3 wrM h4 sbM h5 cc0_scratch3 cc0_scratch4 cc0_scratch5 cc0_scratch6) Q := by
  rw [k0_part33_eq_skeleton]; unfold k0_part33_skel
  refine WP_seq c ?_
  refine part1_runs m ρ K c (fun a0 a1 a2 a3 a4 => ?_)
  refine WP_seq c ?_
  refine part2_runs m ρ K c ?_
  refine WP_seq c ?_
  refine part3_runs m ρ K c ?_
  refine WP_seq c ?_
  refine part4_runs m ρ K c (fun a5 => ?_)
  refine WP_seq c ?_
  refine part5_runs m ρ K c (fun a6 => ?_)
  refine WP_seq c ?_
  refine part6_runs m ρ K c ?_
  refine WP_seq c ?_
  refine part7_runs m ρ K c (fun a7 => ?_)
  refine WP_seq c ?_
  refine part8_runs m ρ K c (fun a8 => ?_)
  refine WP_seq c ?_
  refine part9_runs m ρ K c (fun a9 => ?_)
  refine WP_seq c ?_
  refine part10_runs m ρ K c (fun a10 => ?_)
  refine WP_seq c ?_
  refine part11_runs m ρ K c ?_
  refine WP_seq c ?_
  refine part12_runs m ρ K c ?_
  refine WP_seq c ?_
  refine part13_runs m ρ K c (fun a11 => ?_)
  refine WP_seq c ?_
  refine part14_runs m ρ K c (fun a12 => ?_)
  refine WP_seq c ?_
  refine part15_runs m ρ K c (fun a13 => ?_)
  refine WP_seq c ?_
  refine part16_runs m ρ K c (fun a14 => ?_)
  refine WP_seq c ?_
  refine part17_runs m ρ K c (fun a15 => ?_)
  refine WP_seq c ?_
  refine part18_runs m ρ K c (fun a16 => ?_)
  refine WP_seq c ?_
  refine part19_runs m ρ K c (fun a17 => ?_)
  refine WP_seq c ?_
  refine part20_runs m ρ K c (fun a18 => ?_)
  refine WP_seq c ?_
  refine part21_runs m ρ K c (fun a19 => ?_)
  refine WP_seq c ?_
  refine part22_runs m ρ K c ?_
  refine WP_seq c ?_
  refine part23_runs m ρ K c (fun a20 => ?_)
  refine WP_seq c ?_
  refine part24_runs m ρ K c (fun a21 => ?_)
  refine WP_seq c ?_
  refine part25_runs m ρ K c (fun a22 => ?_)
  refine WP_seq c ?_
  refine part26_runs m ρ K c ?_
  refine WP_seq c ?_
  refine part27_runs m ρ K c ?_
  refine WP_seq c ?_
  refine part28_runs m ρ K c ?_
  refine WP_seq c ?_
  refine part29_runs m ρ K c ?_
  refine WP_seq c ?_
  refine part30_runs m ρ K c (fun a23 => ?_)
  refine WP_seq c ?_
  refine part31_runs m ρ K c ?_
  refine WP_seq c ?_
  refine part32_runs m ρ K c (fun a24 => ?_)
  simp only [Prog.lift, Prog.bind_op, Prog.bind_ret, Prog.pure_eq_ret]
  refine step_recv m ρ K c (oW_of (off8_at c 2 (by decide))) (rcvS_of (off7_at c 2 (by decide))) ?_
  exact WP_ret c (h _)

/-- The whole kernel: from nothing done to everything done. -/
theorem body_runs {R : sProp 𝕄} {Q : PUnit → sProp 𝕄}
    (h : iprop(St m ρ K c 16 5 16 16 16 16 16 1 1 ∗ R) ⊢ WP c (.ret ⟨⟩) Q) :
    iprop(St m ρ K c 0 0 0 0 1 1 1 0 16 ∗ R)
      ⊢ WP c (cc0_body (F := F) xM h0 wM h1 oM h2 xsM h3 wrM h4 sbM h5 cc0_scratch3 cc0_scratch4 cc0_scratch5 cc0_scratch6) Q := by
  rw [cc0_body_eq_skeleton]; unfold cc0_body_skel
  refine WP_seq c ?_
  refine part33_runs m ρ K c (fun v => ?_)
  simp only [Prog.lift, Prog.bind_op, Prog.bind_ret, Prog.pure_eq_ret]
  exact step_recv m ρ K c (oW_of (off8_at c 1 (by decide))) (rcvS_of (off7_at c 1 (by decide))) h

end

end Cert.AllToAll

end
-- ==== Proof.Fam.lean ====
/-
Families shifted, renamed and changed member by member.
-/
module

public import proofs.«01_k».proof.Proof.State

@[expose] public section

set_option maxRecDepth 8000

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Families shifted, renamed and changed member by member -/

/-- A run counted from another start. -/
theorem Rng_shift (n a b : ℕ) (Φ : ℕ → sProp 𝕄) : Rng (a + n) (b + n) Φ = Rng a b fun t => Φ (t + n) := by
  unfold Rng
  rw [show Finset.Ico (a + n) (b + n) = (Finset.Ico a b).map ⟨fun t => t + n, fun _ _ h => Nat.add_right_cancel h⟩ from by
    ext x; simp only [Finset.mem_map, Finset.mem_Ico, Function.Embedding.coeFn_mk]
    refine ⟨fun h => ⟨x - n, by omega, ?_⟩, fun ⟨y, hy, e⟩ => ?_⟩
    · show x - n + n = x; omega
    · have e' : y + n = x := e
      omega, bigSep_map]
  rfl

/-- The run of the members of a family over a finite index. -/
theorem Rng_of_fin {n : ℕ} (f : ℕ → Fin n) (hf : ∀ i : Fin n, f i.val = i) (Φ : Fin n → sProp 𝕄) :
    (bigSep Finset.univ Φ : sProp 𝕄) = Rng 0 n fun t => Φ (f t) := by
  rw [Rng_fin]; exact bigSep_congr fun i _ => by rw [hf]

/-- Two runs side by side. -/
theorem Rng_sep (a b : ℕ) (Φ Ψ : ℕ → sProp 𝕄) : (Rng a b fun t => iprop(Φ t ∗ Ψ t)) = iprop(Rng a b Φ ∗ Rng a b Ψ) := by
  unfold Rng; exact bigSep_sep' _ Φ Ψ

/-- A family changed member by member with the help of something persistent. -/
theorem fam_with {I : Type} [DecidableEq I] {S : Finset I} {R : sProp 𝕄} [BI.Persistent R] {Φ Ψ : I → sProp 𝕄}
    (h : ∀ i ∈ S, (iprop(R ∗ Φ i) ⊢ Ψ i)) : iprop(R ∗ bigSep S Φ) ⊢ bigSep S Ψ := by
  refine (sep_mono_left (BI.bigSep_of_persistent S R)).trans ?_
  rw [← bigSep_sep']
  exact fam_mono h

/-- The same with an update at every member. -/
theorem fam_update {I : Type} [DecidableEq I] {S : Finset I} {R : sProp 𝕄} [BI.Persistent R] {Φ Ψ : I → sProp 𝕄}
    (h : ∀ i ∈ S, (iprop(R ∗ Φ i) ⊢ |={Set.univ}=> Ψ i)) : iprop(R ∗ bigSep S Φ) ⊢ |={Set.univ}=> bigSep S Ψ :=
  (fam_with (Ψ := fun i => iprop(|={Set.univ}=> Ψ i)) h).trans (bigSep_fupd S Ψ)

/-- A sub-family. -/
theorem fam_map {I J : Type} [Fintype J] [DecidableEq J] [DecidableEq I] [Fintype I] (f : I ↪ J) (Φ : J → sProp 𝕄) :
    bigSep Finset.univ Φ ⊢ bigSep Finset.univ fun i : I => Φ (f i) := by
  rw [show (bigSep Finset.univ fun i : I => Φ (f i)) = bigSep (Finset.univ.map f) Φ from (bigSep_map f).symm]
  exact bigSep_subset (Finset.subset_univ _)

/-- A family over two kinds of index. -/
theorem fam_sum {I J : Type} [Fintype I] [Fintype J] (Φ : I ⊕ J → sProp 𝕄) :
    bigSep Finset.univ Φ = iprop(bigSep Finset.univ (fun i => Φ (.inl i)) ∗ bigSep Finset.univ (fun j => Φ (.inr j))) := bigSep_univ_sum Φ

/-- A family of one. -/
theorem fam_unit (Φ : Unit → sProp 𝕄) : bigSep Finset.univ Φ = Φ () := bigSep_singleton

/-- A family of two. -/
theorem fam_two (Φ : Fin 2 → sProp 𝕄) : bigSep Finset.univ Φ = iprop(Φ 0 ∗ Φ 1) := bigSep_univ_two Φ

/-- Slots `1, …, 8` are all eight slots. -/
theorem Rng_slots (Φ : Fin 8 → sProp 𝕄) : (bigSep Finset.univ Φ : sProp 𝕄) = Rng 1 9 fun t => Φ (i8 t) := by
  have h8 : ∀ s : Fin 8, i8 s.val = s := by decide
  rw [Rng_of_fin i8 h8, Rng_take (by decide), Rng_push (a := 1) (b := 8) (by decide)]; rfl

end Cert.AllToAll

end
-- ==== Proof.Entry.lean ====
/-
What a device is launched with, arranged as its first state.
-/
module

public import proofs.«01_k».proof.Proof.Fam

@[expose] public section

set_option maxRecDepth 8000

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ) (c : Dev nD)

/-! ## What a device is launched with -/

/-- The round of the send that slot `t % 8` carries for the `t`-th peer; the own rows take the slot's place that is never
    sent. -/
def sndR (t : ℕ) : ℕ := if t = 0 then 1 else (t - 1) / 8

/-- The tokens of the duties device `c` pays. -/
def payToks : sProp 𝕄 :=
  iprop((bigSep Finset.univ fun q : Fin 16 => dutyTok ER (bar (sigTo c q)) 0 (-q))
    ∗ (bigSep Finset.univ fun t : Fin 16 => dutyTok ER (wC c (i8 t.val)) (t.val / 8) 0)
    ∗ (dutyTok ER (xsC c) 0 0 ∗ dutyTok ER (xrC (partner c)) 0 0)
    ∗ (bigSep Finset.univ fun t : Fin 16 => dutyTok ER (sndC c (i8 t.val)) (sndR t.val) 0)
    ∗ (bigSep Finset.univ fun t : Fin 16 => dutyTok ER (rcvC (peer c t) (pairOf c)) 0 0))
/-- Its semaphores' positions, all at round 0. -/
def ats : sProp 𝕄 := bigSep Finset.univ fun k : Cell => atPos ER (kcell (c, k)) 0 ∅ 0
/-- What the others owe it. -/
def creds : sProp 𝕄 :=
  iprop(cred (tallyAt (bar c) () 16) ∗ cred (tallyAt (xrC c) () NX) ∗ Rng 1 16 fun q => cred (tallyAt (rcvC c (pairOf c + i16 q)) () NO))
/-- A share of `w` for every fetch. -/
def wShares : sProp 𝕄 := bigSep Finset.univ fun t : Fin 16 => ((wM.view.loc (c : Thread nD τ)) ↦{Transfers.shareTok fullShare 16 t} (wArr m c))

/-! ## The pieces of the first state -/

/-- What signal `q` of device `c` hands over: `c`'s partner's half of its row buffer, or its rows of the result for the peer's pair. -/
theorem sig_payload (q : Fin 16) : (Rd m ρ).payload (bar (sigTo c q)) 0 (-q)
    = if q = 0 then anyOwn c (xsW (partner c)) else anyOwn c (oW (pairOf (peer c q))) := by
  rw [payload_bar]
  by_cases h : q = 0
  · subst h
    rw [if_pos rfl, if_pos (by decide)]
    show anyOwn (partner (partner c)) (xsW (partner c)) = _
    rw [partner_partner]
  · rw [if_neg h, if_neg fun e => h ((neg_eq_zero_iff q).mp e)]
    show anyOwn (peer (if q = 0 then partner c else peer c q) (-q)) (oW (pairOf (if q = 0 then partner c else peer c q))) = _
    rw [if_neg h, peer_neg]

/-- The pairs as seen from device `c`. -/
def turn : Fin 16 ≃ Fin 16 where
  toFun q := pairOf (peer c q)
  invFun k := k - pairOf c
  left_inv q := by revert c q; decide +kernel
  right_inv k := by revert c k; decide +kernel
/-- Turning the numbers by a device's pair adds the pair's number. -/
theorem turn_eq (q : Fin 16) : turn c q = pairOf c + q := by revert c q; decide +kernel

/-- Turning zero by a device's pair gives the pair's number. -/
theorem turn_zero : turn c 0 = pairOf c := by revert c; decide +kernel

/-- The barrier signals' loads: the partner's half of the row buffer, and the rows of all other pairs. -/
theorem sgI_start : iprop((bigSep Finset.univ fun q : Fin 16 => dutyTok ER (bar (sigTo c q)) 0 (-q)) ∗ anyOwn c (xsW (partner c))
      ∗ bigSep Finset.univ fun k : Fin 16 => anyOwn c (oW k))
    ⊢ iprop(Rng 0 16 (sgI m ρ c) ∗ anyOwn c (oW (pairOf c))) := by
  have hs : Rng 0 16 (sgI m ρ c) = iprop((bigSep Finset.univ fun q : Fin 16 => dutyTok ER (bar (sigTo c q)) 0 (-q))
      ∗ bigSep Finset.univ fun q : Fin 16 => (Rd m ρ).payload (bar (sigTo c q)) 0 (-q)) := by
    rw [← bigSep_sep', Rng_fin]
    exact bigSep_congr fun q _ => by unfold sgI; rw [i16_val]
  rw [hs, bigSep_univ_at (fun q : Fin 16 => (Rd m ρ).payload (bar (sigTo c q)) 0 (-q)) 0,
    bigSep_univ_equiv (turn c) (fun k => anyOwn c (oW k)), bigSep_univ_at (fun q : Fin 16 => anyOwn c (oW (turn c q))) 0,
    bigSep_congr (s := Finset.univ.erase (0 : Fin 16)) (Φ := fun q : Fin 16 => (Rd m ρ).payload (bar (sigTo c q)) 0 (-q)) (Ψ := fun q => anyOwn c (oW (turn c q)))
      fun q hq => by rw [sig_payload, if_neg (Finset.ne_of_mem_erase hq)]; rfl,
    sig_payload, if_pos rfl, turn_zero]
  iintro ⟨Ht, Hx, Ho, Hr⟩
  isplitr [Ho]
  · isplitl [Ht]; · iexact Ht
    isplitl [Hx] <;> iassumption
  iexact Ho

/-- The blocks of `w`. -/
theorem Wc_start : iprop((bigSep Finset.univ fun t : Fin 16 => dutyTok ER (wC c (i8 t.val)) (t.val / 8) 0) ∗ wShares m c
      ∗ (bigSep Finset.univ fun s : Fin 8 => anyOwn c (wSl s)) ∗ bigSep Finset.univ fun s : Fin 8 => atPos ER (wC c s) 0 ∅ 0)
    ⊢ Wc m c 0 0 := by
  have h8 : ∀ s : Fin 8, i8 s.val = s := by decide
  unfold Wc wShares
  rw [Rng_nil (a := 0) (b := 0) (Nat.le_refl _), Rng_nil (a := 0 - 8) (b := 0) (Nat.le_refl _),
    show Rng 0 16 (wP m c) = iprop((bigSep Finset.univ fun t : Fin 16 => dutyTok ER (wC c (i8 t.val)) (t.val / 8) 0)
        ∗ bigSep Finset.univ fun t : Fin 16 => ((wM.view.loc (c : Thread nD τ)) ↦{Transfers.shareTok fullShare 16 t} (wArr m c))) from by
      rw [← bigSep_sep', Rng_fin]; exact bigSep_congr fun t _ => by unfold wP; rw [i16_val],
    show Rng 0 8 (wFree c) = (iprop((bigSep Finset.univ fun s : Fin 8 => anyOwn c (wSl s)) ∗ bigSep Finset.univ fun s : Fin 8 => atPos ER (wC c s) 0 ∅ 0) : sProp 𝕄) from by
      rw [← bigSep_sep', Rng_fin]; exact bigSep_congr fun s _ => by unfold wFree; rw [h8, Nat.div_eq_of_lt s.isLt]]
  iintro ⟨Ht, Hw, Hs, Ha⟩
  isplitl [Ht Hw]; · isplitl [Ht] <;> iassumption
  isplitl [Hs Ha]; · isplitl [Hs] <;> iassumption
  isplitl; · iempintro
  iempintro

/-- The products. -/
theorem Sc_start : iprop(Rec m ρ K ∗ (bigSep Finset.univ fun t : Fin 16 => dutyTok ER (sndC c (i8 t.val)) (sndR t.val) 0)
      ∗ (bigSep Finset.univ fun t : Fin 16 => dutyTok ER (rcvC (peer c t) (pairOf c)) 0 0)
      ∗ (bigSep Finset.univ fun s : Fin 8 => anyOwn c (sSl s)) ∗ bigSep Finset.univ fun s : Fin 8 => atPos ER (sndC c s) 0 ∅ 0)
    ⊢ Sc m ρ c 1 1 1 := by
  unfold Sc
  rw [Rng_nil (a := 1) (b := 1) (Nat.le_refl _), Rng_nil (a := 1) (b := 1) (Nat.le_refl _),
    ← Rng_fin 16 (fun t => (dutyTok ER (sndC c (i8 t)) (sndR t) 0 : sProp 𝕄)),
    Rng_of_fin i16 i16_val (fun t => (dutyTok ER (rcvC (peer c t) (pairOf c)) 0 0 : sProp 𝕄)),
    Rng_take (a := 0) (by decide), Rng_take (a := 0) (b := 16) (by decide) (fun t => (dutyTok ER (rcvC (peer c (i16 t)) (pairOf c)) 0 0 : sProp 𝕄)),
    Rng_slots (fun s => (anyOwn c (sSl s) : sProp 𝕄)), Rng_slots (fun s => (atPos ER (sndC c s) 0 ∅ 0 : sProp 𝕄)),
    show Rng 1 16 (sP c) = iprop(Rng 1 16 (fun t => dutyTok ER (sndC c (i8 t)) (sndR t) 0) ∗ Rng 1 16 (fun t => (dutyTok ER (rcvC (peer c (i16 t)) (pairOf c)) 0 0 : sProp 𝕄))) from by
      rw [← Rng_sep]
      exact Rng_congr fun t h _ => by unfold sP sndR; rw [if_neg (by omega)]]
  iintro ⟨#HR, ⟨-, Ht⟩, ⟨-, Hr⟩, Hs, Ha⟩
  isplitl [Ht Hr]; · isplitl [Ht] <;> iassumption
  isplitl [Hs Ha]
  · have hm : iprop(Rec m ρ K ∗ Rng 1 9 (fun t => iprop(anyOwn c (sSl (i8 t)) ∗ atPos ER (sndC c (i8 t)) 0 ∅ 0))) ⊢ Rng 1 (1 + 8) (sFree (F := F) c) := by
      refine fam_with fun t ht => ?_
      have h := Finset.mem_Ico.mp ht
      unfold sFree
      rw [show (t - 1) / 8 = 0 by omega]
      iintro ⟨#HR, Hs, Ha⟩
      isplitl [Hs]; · iexact Hs
      isplitl [Ha]; · iexact Ha
      ihave H := (Rec_cell (F := F) m ρ K (c, .inr (.inr (.inr (.inl (i8 t)))))) $$ HR
      icases H with ⟨-, H⟩; iexact H
    iapply hm
    rw [Rng_sep]
    isplitr; · iexact HR
    isplitl [Hs] <;> iassumption
  isplitl; · iempintro
  iempintro

/-- The arrivals. -/
theorem Rc_start : iprop((Rng 1 16 fun q => cred (tallyAt (rcvC c (pairOf c + i16 q)) () NO)) ∗ bigSep Finset.univ fun k : Fin 16 => atPos ER (rcvC c k) 0 ∅ 0)
    ⊢ Rc m ρ c 16 := by
  unfold Rc
  rw [Rng_nil (a := 16) (b := 16) (Nat.le_refl _), bigSep_univ_equiv (turn c) (fun k : Fin 16 => (atPos ER (rcvC c k) 0 ∅ 0 : sProp 𝕄)),
    Rng_of_fin i16 i16_val, Rng_take (a := 0) (b := 16) (by decide),
    show Rng 1 16 (rP c) = iprop((Rng 1 16 fun q => cred (tallyAt (rcvC c (pairOf c + i16 q)) () NO)) ∗ (Rng 1 16 fun q => atPos ER (rcvC c (turn c (i16 q))) 0 ∅ 0 : sProp 𝕄)) from by
      rw [← Rng_sep]; exact Rng_congr fun q _ _ => by unfold rP; rw [turn_eq],
    show turn c (i16 0) = pairOf c from turn_zero c]
  iintro ⟨Hc, H0, Ha⟩
  isplitl [Hc Ha]; · isplitl [Hc] <;> iassumption
  isplitr [H0]; · iempintro
  iexact H0

/-- Everything a device is launched with, arranged as its first state. -/
theorem St_start : iprop((Rec m ρ K ∗ ats c ∗ payToks c) ∗ creds c ∗ wShares m c
      ∗ (∃ f, ((c : Thread nD τ).loc cc0_scratch0 ↦{fullShare} f)) ∗ (∃ f, ((c : Thread nD τ).loc cc0_scratch1 ↦{fullShare} f))
      ∗ (∃ f, ((c : Thread nD τ).loc cc0_scratch2 ↦{fullShare} f)) ∗ (∃ f, ((c : Thread nD τ).loc cc0_stg1_0 ↦{fullShare} f))
      ∗ (∃ W, owes (c : Thread nD τ) (owed c 0 0 1) W) ∗ ((c : Thread nD τ).loc cc0_stg0_0 ↦{fullShare} (xstg m ρ c)))
    ⊢ St m ρ K c 0 0 0 0 1 1 1 0 16 := by
  unfold payToks ats creds
  simp only [fam_sum, fam_unit, fam_two]
  iintro ⟨⟨#HR, ⟨HaB, HaW, ⟨HaS, HaX⟩, HaD, HaR⟩, HtB, HtW, ⟨HtS, HtX⟩, HtD, HtR⟩, ⟨HcB, HcX, HcR⟩, Hw, Hf0, Hf1, Hf2, Hout, HO, Hx⟩
  ihave Hxs := (split_x (F := F) c) $$ Hf0
  icases Hxs with ⟨Hx0, Hx1⟩
  ihave Hws := (split_w (F := F) c) $$ Hf1
  ihave Hss := (split_s (F := F) c) $$ Hf2
  ihave Hos := (split_o (F := F) c) $$ Hout
  ihave HG := (sgI_start m ρ c) $$ [HtB Hx1 Hos]
  · isplitl [HtB]; · iexact HtB
    isplitl [Hx1] <;> iassumption
  icases HG with ⟨HG, Hown⟩
  ihave HW := (Wc_start m c) $$ [HtW Hw Hws HaW]
  · isplitl [HtW]; · iexact HtW
    isplitl [Hw]; · iexact Hw
    isplitl [Hws]; · iexact Hws
    iexact HaW
  ihave HS := (Sc_start m ρ K c) $$ [HtD HtR Hss HaD]
  · isplitr; · iexact HR
    isplitl [HtD]; · iexact HtD
    isplitl [HtR]; · iexact HtR
    isplitl [Hss]; · iexact Hss
    iexact HaD
  ihave HC := (Rc_start m ρ c) $$ [HcR HaR]
  · isplitl [HcR]; · iexact HcR
    iexact HaR
  unfold St Br Pm Oc
  simp only [Xc]
  rw [if_pos (show 0 < 2 by decide), if_pos (show 0 < 2 by decide), if_pos trivial]
  isplitr; · iexact HR
  isplitl [HO]; · iexact HO
  isplitl [Hx]; · iexact Hx
  isplitl [HG]; · iexact HG
  isplitl [HaB HcB]
  · isplitl [HaB]; · iexact HaB
    iexact HcB
  isplitl []; · iempintro
  isplitl [HtS HtX HcX HaX HaS Hx0]
  · isplitl [HtS]; · iexact HtS
    isplitl [HtX]; · iexact HtX
    isplitl [HcX]; · iexact HcX
    isplitl [HaX]; · iexact HaX
    isplitl [HaS]; · iexact HaS
    iexact Hx0
  isplitl [HW]; · iexact HW
  isplitl [HS]; · iexact HS
  isplitl [Hown]; · iexact Hown
  iexact HC

end Cert.AllToAll

end
-- ==== Proof.Exit.lean ====
/-
The last state of a device taken apart.
-/
module

public import proofs.«01_k».proof.Proof.Entry

@[expose] public section

set_option maxRecDepth 8000

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ) (c : Dev nD)

/-! ## The last state taken apart -/

/-- A semaphore none of whose later rounds has a duty is at zero. -/
theorem close_one (k : Cell) {R : ℕ} (h : ∀ r, R ≤ r → (Rd m ρ).duties (kcell (c, k)) r = ∅) :
    iprop(Rec m ρ K ∗ atPos ER (kcell (c, k)) R ∅ 0) ⊢ |={Set.univ}=> semVal (kcell (c, k)) 0 := by
  iintro ⟨#HR, Ha⟩
  ihave H := (Rec_cell (F := F) m ρ K (c, k)) $$ HR
  icases H with ⟨HI, -⟩
  iapply (cell_close ER (Rd m ρ) (Set.mem_univ (K (c, k))) (fun h => h) (R := R) h)
  isplitl [HI]; · iexact HI
  iexact Ha

/-- The slots of `w` and their semaphores. -/
theorem Wc_end : iprop(Rec m ρ K ∗ Wc m c 16 16)
    ⊢ |={Set.univ}=> iprop((∃ f, ((c : Thread nD τ).loc cc0_scratch1 ↦{fullShare} f)) ∗ bigSep Finset.univ fun s : Fin 8 => semVal (wC c s) 0) := by
  have h8 : ∀ s : Fin 8, i8 (s.val + 8) = s := by decide
  have hu : iprop(Rec m ρ K ∗ bigSep Finset.univ fun s : Fin 8 => wDn m c (s.val + 8))
      ⊢ |={Set.univ}=> bigSep Finset.univ fun s : Fin 8 => iprop(anyOwn c (wSl s) ∗ semVal (wC c s) 0) := by
    refine fam_update fun s _ => ?_
    unfold wDn
    rw [h8, show (s.val + 8) / 8 + 1 = 2 by have := s.isLt; omega]
    iintro ⟨#HR, Hh, Ha, -⟩
    imod (close_one m ρ K c (.inr (.inl s)) (R := 2) (later_w m ρ c s)) $$ [Ha] with Hz
    · isplitr; · iexact HR
      iexact Ha
    imodintro
    isplitl [Hh]; · iapply (holds_any c (wSl s)) $$ Hh
    iexact Hz
  unfold Wc
  rw [show Rng (16 - 8) 16 (wDn m c) = bigSep Finset.univ fun s : Fin 8 => wDn m c (s.val + 8) from (Rng_shift 8 0 8 _).trans (Rng_fin 8 _)]
  iintro ⟨#HR, -, -, -, HD⟩
  imod hu $$ [HD] with H
  · isplitr; · iexact HR
    iexact HD
  imodintro
  ihave H' := (Entails.of_eq (bigSep_sep' Finset.univ (fun s : Fin 8 => anyOwn c (wSl s)) fun s : Fin 8 => (semVal (wC c s) 0 : sProp 𝕄))) $$ H
  icases H' with ⟨Hs, Hz⟩
  isplitl [Hs]; · iapply (join_w c (m ((c : Thread nD τ).loc cc0_scratch1))) $$ Hs
  iexact Hz

/-- The slots of the products and their semaphores. -/
theorem Sc_end : iprop(Rec m ρ K ∗ Sc m ρ c 16 16 16)
    ⊢ |={Set.univ}=> iprop((∃ f, ((c : Thread nD τ).loc cc0_scratch2 ↦{fullShare} f)) ∗ bigSep Finset.univ fun s : Fin 8 => semVal (sndC c s) 0) := by
  have h8 : ∀ s : Fin 8, i8 (s.val + 16) = s := by decide
  have hu : iprop(Rec m ρ K ∗ bigSep Finset.univ fun s : Fin 8 => sFree c (s.val + 16))
      ⊢ |={Set.univ}=> bigSep Finset.univ fun s : Fin 8 => iprop(anyOwn c (sSl s) ∗ semVal (sndC c s) 0) := by
    refine fam_update fun s _ => ?_
    unfold sFree
    rw [h8]
    iintro ⟨#HR, Hh, Ha, -⟩
    imod (close_one m ρ K c (.inr (.inr (.inr (.inl s)))) (R := (s.val + 16 - 1) / 8) (later_snd m ρ c s _ (by
      have := s.isLt
      by_cases h : s = 0
      · right; subst h; exact ⟨by decide, rfl⟩
      · left; have : s.val ≠ 0 := fun e => h (Fin.ext e)
        omega))) $$ [Ha] with Hz
    · isplitr; · iexact HR
      iexact Ha
    imodintro
    isplitl [Hh]; · iexact Hh
    iexact Hz
  unfold Sc
  rw [show Rng 16 (16 + 8) (sFree (F := F) c) = bigSep Finset.univ fun s : Fin 8 => sFree c (s.val + 16) from (Rng_shift 16 0 8 _).trans (Rng_fin 8 _)]
  iintro ⟨#HR, -, HD, -⟩
  imod hu $$ [HD] with H
  · isplitr; · iexact HR
    iexact HD
  imodintro
  ihave H' := (Entails.of_eq (bigSep_sep' Finset.univ (fun s : Fin 8 => anyOwn c (sSl s)) fun s : Fin 8 => (semVal (sndC c s) 0 : sProp 𝕄))) $$ H
  icases H' with ⟨Hs, Hz⟩
  isplitl [Hs]; · iapply (join_s c (m ((c : Thread nD τ).loc cc0_scratch2))) $$ Hs
  iexact Hz

/-- The result and the semaphores of the arrivals. -/
theorem Rc_end : iprop(Rec m ρ K ∗ Oc m ρ c 1 ∗ Rc m ρ c 1)
    ⊢ |={Set.univ}=> iprop(((c : Thread nD τ).loc cc0_stg1_0 ↦{fullShare} (outAt m ρ c)) ∗ bigSep Finset.univ fun k : Fin 16 => semVal (rcvC c k) 0) := by
  have hk : ∀ q : Fin 16, turn c q - pairOf c = q := fun q => (turn c).left_inv q
  have hu : iprop(Rec m ρ K ∗ Rng 1 16 (rDn m ρ c))
      ⊢ |={Set.univ}=> Rng 1 16 fun q => iprop(holds c (oW (turn c (i16 q))) fullShare (yBlk m ρ (peer c (turn c (i16 q) - pairOf c)) (-(turn c (i16 q) - pairOf c)))
          ∗ semVal (rcvC c (turn c (i16 q))) 0) := by
    refine fam_update fun q _ => ?_
    unfold rDn
    rw [hk, turn_eq]
    iintro ⟨#HR, Hh, Ha⟩
    imod (close_one m ρ K c (.inr (.inr (.inr (.inr (pairOf c + i16 q))))) (R := 1) (later_rcv m ρ c _ 1 (Or.inl (Nat.le_refl _)))) $$ [Ha] with Hz
    · isplitr; · iexact HR
      iexact Ha
    imodintro
    isplitl [Hh]; · iexact Hh
    iexact Hz
  have hall : iprop(holds c (oW (pairOf c)) fullShare (yBlk m ρ c 0) ∗ semVal (rcvC c (pairOf c)) 0
        ∗ Rng 1 16 fun q => iprop(holds c (oW (turn c (i16 q))) fullShare (yBlk m ρ (peer c (turn c (i16 q) - pairOf c)) (-(turn c (i16 q) - pairOf c)))
          ∗ semVal (rcvC c (turn c (i16 q))) 0))
      ⊢ iprop((bigSep Finset.univ fun k => holds c (oW k) fullShare (yBlk m ρ (peer c (k - pairOf c)) (-(k - pairOf c)))) ∗ bigSep Finset.univ fun k : Fin 16 => semVal (rcvC c k) 0) := by
    rw [← bigSep_sep', bigSep_univ_equiv (turn c), Rng_of_fin i16 i16_val, Rng_take (a := 0) (b := 16) (by decide)]
    rw [show i16 0 = 0 from rfl, hk, turn_zero, show (-0 : Fin 16) = 0 by decide, peer_zero]
    iintro ⟨H1, H2, H3⟩
    isplitl [H1 H2]; · isplitl [H1] <;> iassumption
    iexact H3
  unfold Oc Rc
  rw [if_neg Nat.one_ne_zero]
  iintro ⟨#HR, Ho, -, HD, H0⟩
  imod hu $$ [HD] with H
  · isplitr; · iexact HR
    iexact HD
  imod (close_one m ρ K c (.inr (.inr (.inr (.inr (pairOf c))))) (R := 0) (later_rcv m ρ c _ 0 (Or.inr rfl))) $$ [H0] with Hz0
  · isplitr; · iexact HR
    iexact H0
  imodintro
  ihave Ha := hall $$ [Ho Hz0 H]
  · isplitl [Ho]; · iexact Ho
    isplitl [Hz0] <;> iassumption
  icases Ha with ⟨Ha, Hz⟩
  isplitl [Ha]; · iapply (join_o m ρ c) $$ Ha
  iexact Hz

/-- All of a device's semaphores at zero. -/
def zeros : sProp 𝕄 := bigSep Finset.univ fun k : Cell => semVal (kcell (c, k)) 0

/-- A device that is done: its buffers whole again, its result complete, its semaphores at zero and nothing owed. -/
theorem St_end : St m ρ K c 16 5 16 16 16 16 16 1 1
    ⊢ |={Set.univ}=> iprop((∃ f, ((c : Thread nD τ).loc cc0_scratch0 ↦{fullShare} f)) ∗ (∃ f, ((c : Thread nD τ).loc cc0_scratch1 ↦{fullShare} f))
      ∗ (∃ f, ((c : Thread nD τ).loc cc0_scratch2 ↦{fullShare} f)) ∗ zeros c
      ∗ (∃ W, owes (c : Thread nD τ) 0 W) ∗ ((c : Thread nD τ).loc cc0_stg0_0 ↦{fullShare} (xstg m ρ c))
      ∗ ((c : Thread nD τ).loc cc0_stg1_0 ↦{fullShare} (outAt m ρ c))) := by
  unfold St zeros Br
  simp only [Xc, fam_sum, fam_unit, fam_two]
  rw [if_neg (show ¬ 5 < 2 by decide)]
  iintro ⟨#HR, HO, Hx, -, HaB, -, ⟨HaX, HaS, Hf0⟩, HW, HS, HO', HC⟩
  imod (Wc_end m ρ K c) $$ [HW] with ⟨Hf1, HzW⟩
  · isplitr; · iexact HR
    iexact HW
  imod (Sc_end m ρ K c) $$ [HS] with ⟨Hf2, HzS⟩
  · isplitr; · iexact HR
    iexact HS
  imod (Rc_end m ρ K c) $$ [HO' HC] with ⟨Hout, HzR⟩
  · isplitr; · iexact HR
    isplitl [HO'] <;> iassumption
  imod (close_one m ρ K c (.inl ()) (R := 1) (later_bar m ρ c)) $$ [HaB] with HzB
  · isplitr; · iexact HR
    iexact HaB
  imod (close_one m ρ K c (.inr (.inr (.inl 0))) (R := 1) (later_xs m ρ c)) $$ [HaS] with Hzs
  · isplitr; · iexact HR
    iexact HaS
  imod (close_one m ρ K c (.inr (.inr (.inl 1))) (R := 1) (later_xr m ρ c)) $$ [HaX] with Hzx
  · isplitr; · iexact HR
    iexact HaX
  imodintro
  isplitl [Hf0]; · iexact Hf0
  isplitl [Hf1]; · iexact Hf1
  isplitl [Hf2]; · iexact Hf2
  isplitl [HzB HzW Hzs Hzx HzS HzR]
  · isplitl [HzB]; · iexact HzB
    isplitl [HzW]; · iexact HzW
    isplitl [Hzs Hzx]; · isplitl [Hzs] <;> iassumption
    isplitl [HzS]; · iexact HzS
    iexact HzR
  isplitl [HO]; · iexact HO
  isplitl [Hx]; · iexact Hx
  iexact Hout

end Cert.AllToAll

end
-- ==== Proof.Deal.lean ====
/-
The semaphores and tokens at launch, dealt to the devices.
-/
module

public import proofs.«01_k».proof.Proof.Exit

@[expose] public section

set_option maxRecDepth 8000

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores and tokens at launch -/

/-- Different cells are different semaphores. -/
theorem csem_injective : Function.Injective csem := by
  rintro (_ | x) (_ | y) h
  · rfl
  · have hh : ∀ y, SemLoc.reg barS ≠ osem y := by decide +kernel
    exact absurd h (hh y)
  · have hh : ∀ y, osem y ≠ SemLoc.reg barS := by decide +kernel
    exact absurd h (hh x)
  · have hh : ∀ x y, osem x = osem y → x = y := by decide +kernel
    rw [hh x y h]
/-- Different pairs of device and cell are different semaphores of the mesh. -/
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]
/-- All semaphores the schedule speaks of. -/
def cells : Finset (GSem nD τ sig) := Finset.univ.map ⟨kcell, kcell_injective⟩

/-- The duties of one device's semaphores: its barrier's, its fetches', its row exchange's, its sends', its arrivals'. -/
abbrev TokIx : Type := Fin 16 ⊕ (Fin 16 ⊕ (Fin 2 ⊕ (Fin 16 ⊕ Fin 16)))
/-- A duty's semaphore, round and number. -/
abbrev tk : TokIx → SemLoc sig × ℕ × Fin 16
  | .inl d => (.reg barS, 0, d)
  | .inr (.inl t) => (.dma (wS (i8 t.val)), t.val / 8, 0)
  | .inr (.inr (.inl i)) => (.dma (if i = 0 then xsS else xrS), 0, 0)
  | .inr (.inr (.inr (.inl t))) => (.dma (sndS (i8 t.val)), sndR t.val, 0)
  | .inr (.inr (.inr (.inr k))) => (.dma (rcvS k), 0, 0)
/-- Different indices of a device's tokens name different duties of that device. -/
theorem tk_injective : Function.Injective tk := by
  have h : ∀ x y : TokIx, tk x = tk y → x = y := by decide +kernel
  exact fun x y => h x y
abbrev tokOf (cx : Dev nD × TokIx) : GSem nD τ sig × ℕ × Fin 16 := (((cx.1 : Thread nD τ), (tk cx.2).1), (tk cx.2).2)
/-- Different indices of the mesh's tokens name different duties. -/
theorem tokOf_injective : Function.Injective tokOf := by
  rintro ⟨c, x⟩ ⟨c', x'⟩ h
  have h1 : c = c' := congrArg (fun y : GSem nD τ sig × ℕ × Fin 16 => y.1.1.1) h
  have h2 : x = x' := by
    have ha : (tk x).1 = (tk x').1 := congrArg (fun y : GSem nD τ sig × ℕ × Fin 16 => y.1.2) h
    have hb : (tk x).2 = (tk x').2 := congrArg (fun y : GSem nD τ sig × ℕ × Fin 16 => y.2) h
    exact tk_injective (Prod.ext ha hb)
  rw [h1, h2]
/-- All duty tokens. -/
def toks : Finset (GSem nD τ sig × ℕ × Fin 16) := Finset.univ.map ⟨tokOf, tokOf_injective⟩

/-- The resource at launch, beside the pipeline's. -/
def u₀ : UU := (initOf (Pipeline.cells cfgs cellOf_inj) (Pipeline.launchToks cfgs cellOf_inj), initOf cells toks)

/-- The tokens of the duties of device `c`'s semaphores. -/
def ownToks (c : Dev nD) : sProp 𝕄 :=
  iprop((bigSep Finset.univ fun d : Fin 16 => dutyTok ER (bar c) 0 d)
    ∗ (bigSep Finset.univ fun t : Fin 16 => dutyTok ER (wC c (i8 t.val)) (t.val / 8) 0)
    ∗ (dutyTok ER (xsC c) 0 0 ∗ dutyTok ER (xrC c) 0 0)
    ∗ (bigSep Finset.univ fun t : Fin 16 => dutyTok ER (sndC c (i8 t.val)) (sndR t.val) 0)
    ∗ (bigSep Finset.univ fun k : Fin 16 => dutyTok ER (rcvC c k) 0 0))

/-- What the launch resource gives device `c`. -/
def G (c : Dev nD) : sProp 𝕄 :=
  iprop((bigSep Finset.univ fun k : Cell => roundState ER (Rd m ρ) (kcell (c, k)) 0)
    ∗ (bigSep Finset.univ fun k : Cell => reached ER (kcell (c, k)) 0) ∗ ats c ∗ ownToks c)

/-- All tokens of the mesh are, together, each device's own tokens. -/
theorem toks_eq : bigSep toks (fun x => (dutyTok ER x.1 x.2.1 x.2.2 : sProp 𝕄)) = bigSep Finset.univ fun c : Dev nD => ownToks c := by
  unfold toks
  rw [bigSep_map, bigSep_univ_prod]
  refine bigSep_congr fun c _ => ?_
  unfold ownToks
  rw [fam_sum, fam_sum, fam_sum, fam_sum, fam_two]
  rfl

/-- The launch resource, dealt to the devices. -/
theorem fund_all : BI.own (ER (initOf cells toks)) ⊢ (|==> bigSep Finset.univ (G m ρ) : sProp 𝕄) := by
  have hX (Φ : GSem nD τ sig → sProp 𝕄) : bigSep cells Φ = bigSep Finset.univ fun c : Dev nD => bigSep Finset.univ fun k : Cell => Φ (kcell (c, k)) := by
    unfold cells; rw [bigSep_map, bigSep_univ_prod]; rfl
  iintro HX
  imod (Rounds.fund ER (Rd m ρ) cells toks) $$ HX with ⟨Hst, Hr, Hat, Htok⟩
  imodintro
  ihave Hst' := (Entails.of_eq (hX fun g => roundState ER (Rd m ρ) g 0)) $$ Hst
  ihave Hr' := (Entails.of_eq (hX fun g => reached ER g 0)) $$ Hr
  ihave Hat' := (Entails.of_eq (hX fun g => atPos ER g 0 ∅ 0)) $$ Hat
  ihave Htok' := (Entails.of_eq (toks_eq (F := F))) $$ Htok
  unfold G ats; simp only [bigSep_sep']
  isplitl [Hst']; · iexact Hst'
  isplitl [Hr']; · iexact Hr'
  isplitl [Hat']; · iexact Hat'
  iexact Htok'

/-! ## The tokens handed to those who pay -/

/-- Barrier duties, seen from the receiver and from the sender. -/
def sigEquiv : Dev nD × Fin 16 ≃ Dev nD × Fin 16 where
  toFun x := (sigTo x.1 x.2, -x.2)
  invFun x := (sigTo x.1 x.2, -x.2)
  left_inv x := Prod.ext (sigTo_inv x.1 x.2) (neg_neg16 x.2)
  right_inv x := Prod.ext (sigTo_inv x.1 x.2) (neg_neg16 x.2)
/-- Arrivals, seen from the receiver and from the sender. -/
def rcvEquiv : Dev nD × Fin 16 ≃ Dev nD × Fin 16 where
  toFun x := (peer x.1 x.2, pairOf x.1)
  invFun x := (peer x.1 (x.2 - pairOf x.1), pairOf x.1 - x.2)
  left_inv x := by revert x; decide +kernel
  right_inv x := by revert x; decide +kernel
def partnerEquiv : Dev nD ≃ Dev nD := ⟨partner, partner, partner_partner, partner_partner⟩

/-- Every device's tokens handed to the devices that pay the duties. -/
theorem toks_around : (bigSep Finset.univ fun c : Dev nD => (ownToks c : sProp 𝕄)) ⊢ bigSep Finset.univ fun c : Dev nD => payToks c := by
  have hb : (bigSep Finset.univ fun c : Dev nD => bigSep Finset.univ fun d : Fin 16 => (dutyTok ER (bar c) 0 d : sProp 𝕄))
      = bigSep Finset.univ fun c : Dev nD => bigSep Finset.univ fun q : Fin 16 => dutyTok ER (bar (sigTo c q)) 0 (-q) := by
    rw [← bigSep_univ_prod (fun x : Dev nD × Fin 16 => (dutyTok ER (bar x.1) 0 x.2 : sProp 𝕄)), bigSep_univ_equiv sigEquiv, bigSep_univ_prod]; rfl
  have hr : (bigSep Finset.univ fun c : Dev nD => bigSep Finset.univ fun k : Fin 16 => (dutyTok ER (rcvC c k) 0 0 : sProp 𝕄))
      = bigSep Finset.univ fun c : Dev nD => bigSep Finset.univ fun t : Fin 16 => dutyTok ER (rcvC (peer c t) (pairOf c)) 0 0 := by
    rw [← bigSep_univ_prod (fun x : Dev nD × Fin 16 => (dutyTok ER (rcvC x.1 x.2) 0 0 : sProp 𝕄)), bigSep_univ_equiv rcvEquiv, bigSep_univ_prod]; rfl
  have hx : (bigSep Finset.univ fun c : Dev nD => (dutyTok ER (xrC c) 0 0 : sProp 𝕄)) = bigSep Finset.univ fun c : Dev nD => dutyTok ER (xrC (partner c)) 0 0 :=
    bigSep_univ_equiv partnerEquiv _
  unfold ownToks payToks
  simp only [bigSep_sep']
  rw [hb, hr, hx]

/-! ## The invariants -/

/-- Every semaphore's invariant and that it is at round 0. -/
def records (K : Dev nD × Cell → ℕ) : sProp 𝕄 :=
  bigSep Finset.univ fun ck : Dev nD × Cell => iprop(cellInv ER (Rd m ρ) (K ck) (kcell ck) ∗ reached ER (kcell ck) 0)
instance records_persistent (K : Dev nD × Cell → ℕ) : BI.Persistent (records m ρ K) := by unfold records; infer_instance

/-- What device `c` goes on with. -/
def G' (c : Dev nD) : sProp 𝕄 := iprop(∃ K, records m ρ K ∗ ats c ∗ payToks c)

abbrev oSems (c : Dev nD) : sProp 𝕄 := Pipeline.ownSems0 (Ix := Unit) (Name := ℕ) (U := UU) (Lvl := ℕ) (Val := Elt F) (τ := τ) osem c

/-- The one semaphore that is not the call's own is the barrier. -/
theorem unscopedSems0_eq (c : Dev nD) : (unscopedSems0 c : sProp 𝕄) = semVal (bar c) 0 := by
  unfold unscopedSems0; rw [bigSep_eq_bigSepL_of_eq [SemLoc.reg barS] (by decide) (by decide)]; rfl
/-- A device's own semaphores and its barrier are all its semaphores. -/
theorem sems_eq (c : Dev nD) : (iprop(unscopedSems0 c ∗ oSems c) : sProp 𝕄) = zeros c := by
  unfold zeros
  rw [unscopedSems0_eq, fam_sum, fam_unit]; rfl

/-- A device's invariants allocated. -/
theorem core_alloc (c : Dev nD) : iprop(oSems c ∗ unscopedSems0 c ∗ G m ρ c)
    ⊢ |={Set.univ}=> iprop((bigSep Finset.univ fun k : Cell => iprop(∃ κ : ℕ, cellInv ER (Rd m ρ) κ (kcell (c, k))))
        ∗ (bigSep Finset.univ fun k : Cell => reached ER (kcell (c, k)) 0) ∗ ats c ∗ ownToks c) := by
  have ha : iprop(zeros c ∗ bigSep Finset.univ fun k : Cell => roundState ER (Rd m ρ) (kcell (c, k)) 0)
      ⊢ (|={Set.univ}=> bigSep Finset.univ fun k : Cell => iprop(∃ κ : ℕ, cellInv ER (Rd m ρ) κ (kcell (c, k))) : sProp 𝕄) := by
    unfold zeros
    rw [← bigSep_sep']
    exact (fam_mono fun k _ => (Rounds.body_intro ER (Rd m ρ) (kcell (c, k))).trans inv_alloc).trans (bigSep_fupd _ _)
  unfold G
  iintro ⟨Hos, Hus, Hst, Hr, Hat, Htok⟩
  ihave Hz := (Entails.of_eq (sems_eq (F := F) c)) $$ [Hos Hus]
  · isplitl [Hus] <;> iassumption
  imod ha $$ [Hz Hst] with HI
  · isplitl [Hz] <;> iassumption
  imodintro
  isplitl [HI]; · iexact HI
  isplitl [Hr]; · iexact Hr
  isplitl [Hat] <;> iassumption

/-- The invariants of all devices known to each. -/
theorem regroup : (bigSep Finset.univ fun c : Dev nD => iprop((bigSep Finset.univ fun k : Cell => iprop(∃ κ : ℕ, cellInv ER (Rd m ρ) κ (kcell (c, k))))
        ∗ (bigSep Finset.univ fun k : Cell => reached ER (kcell (c, k)) 0) ∗ ats c ∗ ownToks c) : sProp 𝕄)
    ⊢ bigSep Finset.univ (G' m ρ) := by
  rw [bigSep_sep', bigSep_sep', bigSep_sep', ← bigSep_univ_prod (fun ck : Dev nD × Cell => iprop(∃ κ : ℕ, cellInv ER (Rd m ρ) κ (kcell ck))),
    ← bigSep_univ_prod (fun ck : Dev nD × Cell => (reached ER (kcell ck) 0 : sProp 𝕄))]
  iintro ⟨HI, Hr, Hat, Htok⟩
  ihave HK := (BI.bigSep_exists_pi Finset.univ (fun (ck : Dev nD × Cell) (κ : ℕ) => (cellInv ER (Rd m ρ) κ (kcell ck) : sProp 𝕄))) $$ HI
  icases HK with ⟨%K, HI⟩
  ihave Htk := (toks_around (F := F)) $$ Htok
  ihave Hrec := (Entails.of_eq (bigSep_sep' Finset.univ (fun ck : Dev nD × Cell => cellInv ER (Rd m ρ) (K ck) (kcell ck)) fun ck => (reached ER (kcell ck) 0 : sProp 𝕄)).symm) $$ [HI Hr]
  · isplitl [HI] <;> iassumption
  ihave Hl := (Entails.of_eq (bigSep_sep' Finset.univ (fun c : Dev nD => ats c) fun c => (payToks c : sProp 𝕄)).symm) $$ [Hat Htk]
  · isplitl [Hat] <;> iassumption
  iapply (fam_with (R := records m ρ K) (Φ := fun c : Dev nD => iprop(ats c ∗ payToks c)) fun c _ => by
    unfold G'
    iintro ⟨HR, Ha, Ht⟩
    iexists K
    isplitl [HR]; · iexact HR
    isplitl [Ha] <;> iassumption)
  isplitl [Hrec]; · unfold records; iexact Hrec
  iexact Hl

/-- The semaphores of all devices put under their invariants. -/
theorem glob : (bigSep Finset.univ fun c => iprop(oSems c ∗ unscopedSems0 c ∗ G m ρ c) : sProp 𝕄) ⊢ |={Set.univ}=> bigSep Finset.univ (G' m ρ) :=
  ((fam_mono fun c _ => core_alloc m ρ c).trans (bigSep_fupd _ _)).trans (BI.fupd_mono (regroup m ρ))

end Cert.AllToAll

end
-- ==== Proof.Owing.lean ====
/-
What the others owe a device at launch.
-/
module

public import proofs.«01_k».proof.Proof.Deal

@[expose] public section

set_option maxRecDepth 8000

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What the others owe a device at launch -/

/-- The pair of the peer at distance `t`, taken back by `t`, is the device's own. -/
theorem peer_pair (d : Dev nD) (t : Fin 16) : pairOf (peer d t) - t = pairOf d := by revert d t; decide +kernel

/-- The barrier signals of number `q`: each device is owed one. -/
theorem cred_bar (q : Fin 16) (c : Dev nD) :
    (Pipeline.launchCred (fun d => tallyAt (bar (sigTo d q)) () 1) c : sProp 𝕄) ⊢ cred (tallyAt (bar c) () 1) :=
  Pipeline.launchCred_tallyAt (.reg barS) (fun d => sigTo d q) (fun d => sigTo d (-q)) (fun d => by
    have := sigTo_inv d (-q); rwa [neg_neg16 q] at this) (fun d => sigTo_inv d q) () 1 c

/-- The partner's half of the rows. -/
theorem cred_xr (c : Dev nD) : (Pipeline.launchCred (fun d => tallyAt (xrC (partner d)) () NX) c : sProp 𝕄) ⊢ cred (tallyAt (xrC c) () NX) :=
  Pipeline.launchCred_tallyAt (.dma xrS) partner partner partner_partner partner_partner () NX c

/-- The devices `t` pairs on. -/
def peerEquiv (t : Fin 16) : Dev nD ≃ Dev nD := ⟨fun d => peer d t, fun d => peer d (-t), fun d => peer_neg d t, fun d => neg_peer d t⟩

/-- The products for the `t`-th peers: each device is owed one, by the device `t` pairs back. -/
theorem cred_rcv (t : Fin 16) (c : Dev nD) :
    (Pipeline.launchCred (fun d => tallyAt (rcvC (peer d t) (pairOf d)) () NO) c : sProp 𝕄) = cred (tallyAt (rcvC c (pairOf c - t)) () NO) := by
  refine Pipeline.launchCred_of_sum _ (fun d => tallyAt (rcvC d (pairOf d - t)) () NO) ?_ ?_ c
  · refine Eq.trans ?_ (Equiv.sum_comp (peerEquiv t) _)
    exact Finset.sum_congr rfl fun d _ => by
      show _ = tallyAt (rcvC (peer d t) (pairOf (peer d t) - t)) () NO
      rw [peer_pair]
  · intro d g h
    by_contra hn
    exact h (tallyAt_ne_cell (fun e => hn (congrArg Prod.fst e)) () NO)

/-- Taking `15 - j` away, among 16 pairs, is adding `j + 1`. -/
theorem sub_i16 (k : Fin 16) {j : ℕ} (h : j < 15) : k - i16 (15 - j) = k + i16 (j + 1) := by
  have hh : ∀ (k : Fin 16) (j : Fin 15), k - i16 (15 - j.val) = k + i16 (j.val + 1) := by decide +kernel
  exact hh k ⟨j, h⟩

/-- The arrivals owed. -/
theorem cred_oR (c : Dev nD) : ∀ j, j ≤ 15 → ((Pipeline.launchCred (fun d => oR d j) c : sProp 𝕄)
    ⊢ Rng 1 (j + 1) fun q => cred (tallyAt (rcvC c (pairOf c + i16 q)) () NO))
  | 0, _ => by rw [Rng_nil (by decide)]; iintro -; iempintro
  | j + 1, h => by
    rw [Rng_push (by omega), ← sub_i16 (pairOf c) (show j < 15 by omega), ← cred_rcv]
    show (Pipeline.launchCred (fun d => oR d j + tallyAt (rcvC (peer d (i16 (15 - j))) (pairOf d)) () NO) c : sProp 𝕄) ⊢ _
    rw [Pipeline.launchCred_add]
    iintro ⟨H1, H2⟩
    isplitl [H2]; · iexact H2
    iapply (cred_oR c j (by omega)) $$ H1

/-- The barrier signals owed. -/
theorem cred_oB (c : Dev nD) : ∀ j, (Pipeline.launchCred (fun d => oB d j) c : sProp 𝕄)
    ⊢ iprop(cred (tallyAt (bar c) () j) ∗ Pipeline.launchCred (fun d => oB d 0) c)
  | 0 => by
    rw [tallyAt_zero, cred_zero]
    iintro H
    isplitr; · iempintro
    iexact H
  | j + 1 => by
    show (Pipeline.launchCred (fun d => oB d j + tallyAt (bar (sigTo d (i16 (15 - j)))) () 1) c : sProp 𝕄) ⊢ _
    rw [Pipeline.launchCred_add, ← tallyAt_add]
    iintro ⟨H1, H2⟩
    ihave H := (cred_oB c j) $$ H1
    icases H with ⟨H1, H3⟩
    isplitr [H3]
    · iapply (cred_add _ _).2
      isplitl [H1]; · iexact H1
      iapply (cred_bar (i16 (15 - j)) c) $$ H2
    iexact H3

/-- All a device is owed. -/
theorem creds_intro (c : Dev nD) : (Pipeline.launchCred (fun d => owed d 0 0 1) c : sProp 𝕄) ⊢ creds c := by
  show (Pipeline.launchCred (fun d => oB d 16) c : sProp 𝕄) ⊢ _
  unfold creds
  iintro H
  ihave H' := (cred_oB (F := F) c 16) $$ H
  icases H' with ⟨HB, HR⟩
  isplitl [HB]; · iexact HB
  ihave HR' := (Entails.of_eq (show (Pipeline.launchCred (fun d => oB d 0) c : sProp 𝕄)
    = iprop(Pipeline.launchCred (fun d => oR d 15) c ∗ Pipeline.launchCred (fun d => tallyAt (xrC (partner d)) () NX) c) from Pipeline.launchCred_add _ _ c)) $$ HR
  icases HR' with ⟨HR, HX⟩
  isplitl [HX]; · iapply (cred_xr c) $$ HX
  iapply (cred_oR c 15 (Nat.le_refl _)) $$ HR

end Cert.AllToAll

end
-- ==== Proof.Body.lean ====
/-
The pipeline's account of the one point, and its body.
-/
module

public import proofs.«01_k».proof.Proof.Run
public import proofs.«01_k».proof.Proof.Owing
public import proofs.«01_k».proof.Proof.Gen.KernelIdeal.Points

@[expose] public section

set_option maxRecDepth 8000

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What device `c`'s body starts from, beside its buffers. -/
def start (c : Dev nD) : sProp 𝕄 := iprop((∃ K, Rec m ρ K ∗ ats c ∗ payToks c) ∗ creds c ∗ wShares m c)

/-- The scratch buffers, holding anything. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(start m ρ c ∗ scr c)
def Φ₁ (c : Dev nD) : sProp 𝕄 := iprop(scr c ∗ zeros c)

/-- The pipeline's account of the one point. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => owed c 0 0 1
    | ⟨_ + 1, _⟩ => 0

/-- Owning a whole buffer through its whole view is owning its points. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ c ∗ (dats m ρ 0 c).owesAt () t0_0.succ ∗ stg c cc0_stg0_0 (xstg m ρ c) ∗ stg c cc0_stg1_0 (outAt m ρ c))

/-- Before the body runs, the window of `x` holds the device's rows of `x`. -/
theorem before_x (c : Dev nD) (t : Fin cfg0.N) (d) : (dats m ρ 0 c).before (0 : Fin 2) t d = xstg m ρ c := by
  rw [fin_N0 t]; unfold Dat.before; rw [if_pos (fetch0_0 _)]; rfl

/-- From what the point starts with to the state the body starts in. -/
theorem pre_St (c : Dev nD) : bodyPre m ρ c ⊢ iprop(∃ K, St m ρ K c 0 0 0 0 1 1 1 0 16) := by
  unfold bodyPre Φ₀ start scr
  iintro ⟨⟨⟨⟨%K, HK⟩, Hc, Hw⟩, Hs0, Hs1, Hs2⟩, Ho, ⟨%d0, %f0, %h0, Hx⟩, ⟨%d1, %f1, -, Hout⟩⟩
  rw [before_x] at h0
  subst h0
  iexists K
  iapply (St_start m ρ K c)
  isplitl [HK]; · iexact HK
  isplitl [Hc]; · iexact Hc
  isplitl [Hw]; · iexact Hw
  isplitl [Hs0]; · iexact Hs0
  isplitl [Hs1]; · iexact Hs1
  isplitl [Hs2]; · iexact Hs2
  isplitl [Hout]; · iexists f1; iexact Hout
  isplitl [Ho]
  · unfold Dat.owesAt Pipeline.owesWithin
    icases Ho with ⟨%W, -, Ho⟩
    iexists W; iexact Ho
  iexact Hx

/-- From the state the body ends in to what the point ends with. -/
theorem St_post (K) (c : Dev nD) : St m ρ K c 16 5 16 16 16 16 16 1 1 ⊢ |={Set.univ}=> bodyPost m ρ c := by
  refine (St_end m ρ K c).trans (BI.fupd_mono ?_)
  unfold bodyPost Φ₁ scr
  iintro ⟨H0, H1, H2, Hz, ⟨%W, Ho⟩, Hx, Hout⟩
  isplitl [H0 H1 H2 Hz]
  · isplitl [H0 H1 H2]
    · isplitl [H0]; · iexact H0
      isplitl [H1] <;> iassumption
    iexact Hz
  isplitl [Ho]
  · unfold Dat.owesAt Pipeline.owesWithin
    iexists W
    isplitr; · ipureintro; exact fun _ _ => Or.inl trivial
    iexact Ho
  isplitl [Hx]
  · iexists _; isplitr; · (ipureintro; rfl)
    iexact Hx
  iexists _; isplitr; · (ipureintro; rfl)
  iexact Hout

/-- The body, from what the point starts with to what it ends with. -/
theorem sound_body (c : Dev nD) : bodyPre m ρ c ⊢ WP c (cc0_body (F := F) xM (Memref.isWhole_whole _) wM (Memref.isWhole_whole _) oM (Memref.isWhole_whole _)
    xsM (Memref.isWhole_whole _) wrM (Memref.isWhole_whole _) sbM (Memref.isWhole_whole _) cc0_scratch3 cc0_scratch4 cc0_scratch5 cc0_scratch6) (fun _ => bodyPost m ρ c) := by
  refine (pre_St m ρ c).trans ?_
  iintro ⟨%K, H⟩
  iapply (body_runs m ρ K c (R := iprop(emp)) (Q := fun _ => bodyPost m ρ c) (by
    unfold WP; rw [wp_ret]
    iintro ⟨H, -⟩
    iapply (St_post m ρ K c) $$ H))
  isplitl; · iexact H
  iempintro

/-- The pipeline's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

end Cert.AllToAll

end
-- ==== Proof.Launch.lean ====
/-
The run of the whole mesh.
-/
module

public import proofs.«01_k».proof.Proof.Body
public import Idealize.ShloMosaic.Lib.Pipeline.CollectiveSegs

@[expose] public section

set_option maxRecDepth 8000

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The call's own semaphores are listed once each, and are scoped to it. -/
theorem ownSemFacts : Pipeline.OwnSemFacts cfg0.spec osem := by decide +kernel

/-- Each window is held whole. -/
theorem share_eq (c : Dev nD) (w : Fin cfg0.W) : (dats m ρ 0 c).share w = fullShare := by unfold Dat.share; split <;> rfl

/-- The remainder of the weights' ownership that no fetch takes. -/
def keptW (c : Dev nD) : sProp 𝕄 := iprop(((c : Thread nD τ).loc main_arg1) ↦{Transfers.shareDrop fullShare 16} m ((c : Thread nD τ).loc main_arg1))

/-- What the launch gives device `c` arranged for its body. -/
theorem start_intro (c : Dev nD) :
    iprop(Pipeline.unscopedRestP Pipeline.Prefetch.none cfg0.spec c (fun b => m ((c : Thread nD τ).loc b)) ∗ levAts L lv
        ∗ Pipeline.launchCred (fun d => owed d 0 0 1) c ∗ prngReg c (ρ c) ∗ G' m ρ c)
      ⊢ |={Set.univ}=> iprop(start m ρ c ∗ keptW m c) := by
  rw [Pipeline.unscopedRestP_none, unscopedRest0_eq]
  unfold start G' records Rec wShares keptW
  iintro ⟨Hw, Hlev, Hcr, -, ⟨%K, HR, Ha, Ht⟩⟩
  ihave Hc := (creds_intro (F := F) c) $$ Hcr
  ihave Hs := (Transfers.pointsTo_toks_split fullShare 16) $$ Hw
  icases Hs with ⟨Hk, Hs⟩
  imodintro
  isplitr [Hk]
  · isplitl [HR Hlev Ha Ht]
    · iexists K
      isplitl [HR Hlev]
      · isplitl [HR] <;> iassumption
      isplitl [Ha] <;> iassumption
    isplitl [Hc]; · iexact Hc
    iexact Hs
  iexact Hk

/-- What a device is dealt is what its body starts from. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

/-- What the body leaves holds the semaphores at zero and the scratch buffers. -/
theorem phi1_exit (c : Dev nD) :
    (dats m ρ 0 c).Φ (Fin.last cfg0.N) ⊢ iprop(unscopedSems0 c ∗ oSems c ∗ Pipeline.scopedRest cfg0.spec c) := by
  rw [show (dats m ρ 0 c).Φ (Fin.last cfg0.N) = Φ₁ c from rfl, scopedRest0_eq]
  unfold Φ₁ scr
  rw [← sems_eq]
  iintro ⟨Hr, HzB, Hz⟩
  isplitl [HzB]; · iexact HzB
  isplitl [Hz]; · iexact Hz
  iexact Hr

/-- The staging semaphores lie below everything owed. -/
theorem waits (c : Dev nD) : (levAts L lv : sProp 𝕄) ⊢ Pipeline.cellsWaits cfgs (dats m ρ) () 0 c :=
  Pipeline.cellsWaits_intro cfgs (dats m ρ) () 0 c fun w s t =>
    mayWait_of c _ _ 0 (by fin_cases w <;> fin_cases s <;> decide) fun g u h => by
      rcases t with ⟨_ | _, ht⟩
      · exact ⟨(oB_pos c 16 h).1, (oB_pos c 16 h).2⟩
      · exact absurd h (Nat.lt_irrefl 0)

/-- What the arrays hold at the end. -/
def finalA (c : Dev nD) (w : Fin cfg0.W) : Buf (Elt F) ((cfg0.win w).arr.view.loc (c : Thread nD τ)) := (dats m ρ 0 c).arrAt w cfg0.N

/-- What every run ends in: the arrays at those contents, the weights and all semaphores as they were. -/
def Ends (r : PUnit × MemSt nD τ sig (Elt F)) : Prop :=
  (∀ c : Dev nD, ∀ w : Fin cfg0.W, r.2.mem ((cfg0.win w).arr.view.loc (c : Thread nD τ)) = finalA m ρ c w)
    ∧ (∀ c : Dev nD, r.2.mem ((c : Thread nD τ).loc main_arg1) = m ((c : Thread nD τ).loc main_arg1)) ∧ r.2.sem = fun _ => 0

/-- Every fair run of the program on the mesh terminates, in a state as just described. -/
theorem run_main : θ_run defs (onTc (τ := τ) (main (F := F))) (s₀ m ρ) (Ends m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => owed d 0 0 1) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := keptW m)
    (hX := start_intro m ρ) (hin := phi0_intro m ρ) (hout := phi1_exit m ρ)
    (QY := fun c s => s.mem ((c : Thread nD τ).loc main_arg1) = m ((c : Thread nD τ).loc main_arg1)
      ∧ ∀ sm : SemLoc sig, sm.isScoped .tc = false → s.sem ((c.tc : Thread nD τ), sm) = 0)
    (hY := fun c s' => by
      unfold keptW
      iintro ⟨Hu, Hk, HSI⟩
      icombine HSI Hk gives %h
      imod (Pipeline.unscopedSems0_read (X := unscopedSems0 c) (c := c) fupd_intro s') $$ [Hu HSI] with ⟨%hs, HSI⟩
      · isplitl [Hu] <;> iassumption
      imodintro
      isplitr; · ipureintro; exact ⟨Buf.eq_of_forall_mem_univ h, hs⟩
      iexact HSI)
    (hQ := fun _ h hs => ⟨fun c w => (h c).1 w, fun c => (h c).2.2.1, sem_eq_zero hs fun c => (h c).2.2.2⟩)

/-- The array of rows holds after the run what it held. -/
theorem finalA_x (c : Dev nD) : finalA m ρ c (0 : Fin 2) = m ((c : Thread nD τ).loc main_arg0) :=
  (dats (F := F) m ρ 0 c).arrAt_in (0 : Fin 2) rfl _

/-- No run changes the arguments, and every semaphore is back at zero. -/
theorem run_frame : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun r h => ⟨fun c => ⟨(h.1 c (0 : Fin 2)).trans (finalA_x m ρ c), h.2.1 c⟩, h.2.2⟩) (run_main m ρ)

end Cert.AllToAll

end
-- ==== Proof.Frames.lean ====
/-
The three claims that the programs run, leave their arguments as they were and every semaphore at zero.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.AllToAll

open Idealize.ShloMosaic Idealize.SL.Sem

/-- Both programs' kernels are one text. -/
theorem defs₀_eq : Cert.Kernel.defs₀ (F := Bits) = Cert.KernelIdeal.defs₀ := by
  unfold Cert.Kernel.defs₀ Cert.KernelIdeal.defs₀
  congr 1
  funext l a
  match l, a with
  | 0, (t, s) => rfl

/-- The two instances of the kernel have the same definitions. -/
theorem defs_eq : Cert.Kernel.defs (F := Bits) = Cert.KernelIdeal.defs := congrArg (Pipeline.defs Cert.KernelIdeal.pcfgs) defs₀_eq

/-- The program as printed: its text is the idealized program's, read at bit patterns. -/
theorem frame_kernel : Cert.quiescent_Kernel :=
  fun m ρ _ => by rw [defs_eq]; exact run_frame (F := Bits) m ρ

/-- The idealized program. -/
theorem frame_ideal : Cert.quiescent_KernelIdeal :=
  fun m ρ _ => (θ_run Cert.KernelIdeal.defs _ _).mono (fun _ h => h) (run_frame (F := Ideal) m ρ)

/-- The reference, which has no semaphores. -/
theorem frame_reference : Cert.quiescent_ReferenceIdeal :=
  fun m ρ _ => (θ_run Cert.ReferenceIdeal.defs _ _).mono
    (fun r h => ⟨fun c => (h c).2, sem_eq_zero_of_no_sems (by decide) r.2⟩) (Cert.ReferenceIdeal.Value.run (F := Ideal) m ρ)

end Cert.AllToAll

end
-- ==== Proof.Arrays.lean ====
/-
What the arrays hold at the end, and what the body reads of them.
-/
module

public import proofs.«01_k».proof.Proof.Launch
public import Idealize.ShloMosaic.Lib.Pipeline.Value

@[expose] public section

set_option maxRecDepth 8000

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A device's block of `x` is staged as it is. -/
theorem xstg_eq (c : Dev nD) : xstg m ρ c = m ((c : Thread nD τ).loc main_arg0) := by
  funext j
  show m ((c : Thread nD τ).loc main_arg0) ((win0_0.blk (0 : Fin 1)).view.emb j) = _
  refine congrArg _ ?_
  exact funext fun a => Fin.ext (win0_0.rect_emb_val_of_index_zero (0 : Fin 1) a rfl j)

/-- The result's one block is the whole result: its index map is the identity. -/
theorem out_emb (t : Fin cfg0.N) (j) : ((cfg0.win (1 : Fin 2)).blk t).view.emb j = j :=
  funext fun a => Fin.ext (win0_1.rect_emb_val_of_index_zero t a rfl j)

/-- The result array ends holding what the body leaves in its staging buffer. -/
theorem finalA_out (c : Dev nD) : finalA m ρ c (1 : Fin 2) = outAt m ρ c := by
  unfold finalA
  refine (dats m ρ 0 c).arrAt_eq_of_cover (1 : Fin 2) (outAt m ρ c) (fun t _ => ?_) (fun i => ⟨t0_0, flush0_1 _, ?_⟩)
  · funext j
    show outAt m ρ c j = outAt m ρ c (((cfg0.win (1 : Fin 2)).blk t).view.emb j)
    rw [out_emb]
  · have h := ((cfg0.win (1 : Fin 2)).blk t0_0).view.emb_mem_set i
    rwa [out_emb] at h

/-- The `t`-th fetch of `w` starts at row 0 and at the first column that belongs to the `t`-th peer. -/
theorem off_w (c : Dev nD) (t : Fin 16) : k0_off2 c (BitVec.ofNat 32 (2 * t.val)) 0 = 0
    ∧ k0_off2 c (BitVec.ofNat 32 (2 * t.val)) 1 = 256 * (peer c t).val := by revert c t; decide +kernel

/-- The columns of `w` multiplied for a device are its columns of the whole. -/
theorem wBlk_apply (c : Dev nD) (t : Fin 16) (k : Fin 4096) (l : Fin 256) :
    wBlk m c t (ValueIdx.ix2 k l) = (m ((c : Thread nD τ).loc main_arg1) : Vec F S4096x8192 .f32)
      (ValueIdx.ix2 k ⟨256 * (peer c t).val + l.val, by have h := (peer c t).isLt; have := l.isLt; simp only [nD] at h; omega⟩) := by
  show m ((c : Thread nD τ).loc main_arg1) ((wCol c t).view.emb (ValueIdx.ix2 k l)) = _
  refine congrArg _ ?_
  funext a
  match a with
  | ⟨0, _⟩ => exact Fin.ext (by show k0_off2 c (BitVec.ofNat 32 (2 * t.val)) 0 + 1 * k.val = k.val; rw [(off_w c t).1]; omega)
  | ⟨1, _⟩ => exact Fin.ext (by show k0_off2 c (BitVec.ofNat 32 (2 * t.val)) 1 + 1 * l.val = 256 * (peer c t).val + l.val; rw [(off_w c t).2]; omega)

end Cert.AllToAll

end
-- ==== Proof.Relu.lean ====
/-
The value of a device's result, over the reals.
-/
module

public import proofs.«01_k».proof.Proof.Arrays
public import proofs.«01_k».proof.Proof.Gen.ReferenceIdeal
public import Idealize.ShloMosaic.Lib.MatmulPlain
public import Idealize.ShloMosaic.Lib.StackMember
public import Idealize.ShloMosaic.Lib.Layout
public import Idealize.ShloMosaic.PureOps.Ideal

@[expose] public section

set_option maxRecDepth 8000

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The product at the reals -/

/-- The rectified inner product of row `r` of `x` and column `l` of `w`. -/
def entry {M N : ℕ} (x : FVec Ideal ⟨2, ![M, 4096]⟩ .bf16) (w : FVec Ideal ⟨2, ![4096, N]⟩ .f32) (r : Fin M) (l : Fin N) : EReal :=
  max (∑ k : Fin 4096, x (ValueIdx.ix2 r k) * w (ValueIdx.ix2 k l)) 0

/-- The device's product, entry by entry. -/
theorem dotY_apply (x : Vec Ideal S256x4096 .bf16) (w : FVec Ideal S4096x256 .f32) (r l : Fin 256) :
    dotY (F := Ideal) x w (ValueIdx.ix2 r l) = entry x w r l := by
  have h := Ideal.matmul_plain_apply (M := 256) (K := 4096) (N := 256) (φ₁ := .bf16) none x (truncf (F := Ideal) .bf16 w bitsLt_bf16_f32)
    (constant (F := Ideal) S256x256 .f32 0x00000000#32) r l
  show max (FloatOps.matmul (DotDims.plain 256 4096 256) none x (truncf (F := Ideal) .bf16 w bitsLt_bf16_f32)
    (constant (F := Ideal) S256x256 .f32 0x00000000#32) (ValueIdx.ix2 r l)) (Ideal.ofBits .f32 0x00000000#32) = _
  rw [h]
  show max (Ideal.ofBits .f32 0x00000000#32 + ∑ k : Fin 4096, x (ValueIdx.ix2 r k) * w (ValueIdx.ix2 k l)) (Ideal.ofBits .f32 0x00000000#32) = _
  rw [Ideal.ofBits_zero_f32, zero_add]; rfl

/-! ## A device's result -/

variable (m : (ℓ : Loc nD τ sig) → Buf (Elt Ideal) ℓ) (ρ : Dev nD → PrngReg)
variable (X : FVec Ideal ⟨2, ![4096, 4096]⟩ .bf16) (W : FVec Ideal ⟨2, ![4096, 8192]⟩ .f32)

/-- The devices hold the blocks of rows of `X`, and each all of `W`. -/
def Given : Prop := ∀ c : Dev nD,
  m ((c : Thread nD τ).loc main_arg0) = Layout.block ⟨2, ![128, 4096]⟩ ⟨2, ![4096, 4096]⟩ 0 32 c X ∧ m ((c : Thread nD τ).loc main_arg1) = W

/-- Each pair `k` is that of the peer at distance `k` from the device's own pair. -/
theorem pair_peer (c : Dev nD) (k : Fin 16) : pairOf (peer c (k - pairOf c)) = k := by revert c k; decide +kernel

/-- The pair's rows are rows of `X`. -/
theorem xsAll_apply (h : Given m X W) (c : Dev nD) (r : Fin 256) (k : Fin 4096) :
    xsAll m ρ c (ValueIdx.ix2 r k) = X (ValueIdx.ix2 ⟨256 * (pairOf c).val + r.val, by have := (pairOf c).isLt; have := r.isLt; omega⟩ k) := by
  show (xstg m ρ (rowDev c r) : Vec Ideal S128x4096 .bf16) (ValueIdx.ix2 ⟨r.val % 128, _⟩ k) = _
  rw [xstg_eq, (h (rowDev c r)).1, Layout.block_apply]
  refine congrArg X ?_
  funext a
  match a with
  | ⟨0, _⟩ => exact Fin.ext (by show (rowDev c r).val * 128 + r.val % 128 = 256 * (pairOf c).val + r.val; simp only [rowDev]; omega)
  | ⟨1, _⟩ => exact Fin.ext rfl

/-- An entry of a device's result is the entry of the whole product in its columns. -/
theorem outAt_apply (h : Given m X W) (c : Dev nD) (r : Fin 4096) (l : Fin 256) :
    outAt m ρ c (ValueIdx.ix2 r l) = entry X W r ⟨256 * c.val + l.val, by have h := c.isLt; have := l.isLt; simp only [nD] at h; omega⟩ := by
  show dotY _ _ (ValueIdx.ix2 ⟨r.val % 256, _⟩ l) = _
  rw [dotY_apply]
  unfold entry
  refine congrArg (fun s : EReal => max s 0) (Finset.sum_congr rfl fun k _ => ?_)
  rw [xsAll_apply m ρ X W h, wBlk_apply, (h _).2]
  refine congrArg₂ (fun a b : EReal => a * b) (congrArg X (congrArg (fun i => ValueIdx.ix2 i k) (Fin.ext ?_))) (congrArg W (congrArg (fun i => ValueIdx.ix2 k i) (Fin.ext ?_)))
  · show 256 * (pairOf (peer c (⟨r.val / 256, _⟩ - pairOf c))).val + r.val % 256 = r.val
    rw [pair_peer]; show 256 * (r.val / 256) + r.val % 256 = r.val; omega
  · show 256 * (peer (peer c (⟨r.val / 256, _⟩ - pairOf c)) (-(⟨r.val / 256, _⟩ - pairOf c))).val + l.val = 256 * c.val + l.val
    rw [peer_neg]

/-! ## The reference -/

/-- The reference's result. -/
def whole : FVec Ideal Cert.ReferenceIdeal.S4096x8192 .bf16 :=
  truncf .bf16 (maximumf (Host.dotGeneral Cert.ReferenceIdeal.dot_S4096x4096_S4096x8192_S4096x8192_1_0_0_1_n_n none (extf .f32 X bitsLt_bf16_f32) W)
    (broadcastInDim Cert.ReferenceIdeal.S4096x8192 ![] Cert.ReferenceIdeal.Gen.facts.bcast_S_S4096x8192
      (constant (F := Ideal) Cert.ReferenceIdeal.S_ .f32 0x00000000#32))) bitsLt_bf16_f32

/-- An entry of the reference's result. -/
theorem whole_apply (r : Fin 4096) (l : Fin 8192) : whole X W (ValueIdx.ix2 r l) = entry X W r l := by
  have h := StackMember.dotGeneral_plain_apply (φ₁ := .f32) none (extf (F := Ideal) .f32 X bitsLt_bf16_f32) W r l
  show max (Host.dotGeneral (F := Ideal) (DotDims.plain 4096 4096 8192) none (extf (F := Ideal) .f32 X bitsLt_bf16_f32) W (ValueIdx.ix2 r l)) (Ideal.ofBits .f32 0x00000000#32) = _
  rw [h, Ideal.ofBits_zero_f32]; rfl

/-- Each device's result is its block of columns of the reference's. -/
theorem outAt_block (h : Given m X W) (c : Dev nD) :
    outAt m ρ c = Layout.block ⟨2, ![4096, 256]⟩ ⟨2, ![4096, 8192]⟩ 1 32 c (whole X W) := by
  funext i
  obtain ⟨r, l, rfl⟩ : ∃ (r : Fin 4096) (l : Fin 256), i = ValueIdx.ix2 r l := ⟨i 0, i 1, by
    funext a
    match a with
    | ⟨0, _⟩ => rfl
    | ⟨1, _⟩ => rfl⟩
  rw [outAt_apply m ρ X W h, Layout.block_apply, ← whole_apply]
  refine congrArg (whole X W) ?_
  funext a
  match a with
  | ⟨0, _⟩ => exact Fin.ext rfl
  | ⟨1, _⟩ => exact Fin.ext (by show 256 * c.val + l.val = c.val * 256 + l.val; omega)

end Cert.AllToAll

end
-- ==== Proof.Equation.lean ====
/-
The claim that the kernel computes the reference's result over the reals.
-/
module

public import proofs.«01_k».proof.Defs
public import proofs.«01_k».proof.Proof.Relu
public import proofs.«01_k».proof.Proof.Gen.ReferenceIdeal.Run

@[expose] public section

noncomputable section

namespace Cert.AllToAll

open Idealize.ShloMosaic Idealize.SL.Sem

/-- Both programs run, and each device of the kernel ends with its block of columns of the reference's result. -/
theorem algebraic : Cert.algebraic_KernelIdeal_ReferenceIdeal := by
  intro m ρ m' ρ' _ hg
  refine ⟨whole (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun r h c => ⟨(h.1 c (1 : Fin 2)).trans ((finalA_out m ρ c).trans (outAt_block m ρ _ _ hg c)), (h.1 c (0 : Fin 2)).trans (finalA_x m ρ c), h.2.1 c⟩)
      (run_main (F := Ideal) m ρ)
  · exact (θ_run Cert.ReferenceIdeal.defs _ _).mono (fun r h => h 0) (Cert.ReferenceIdeal.Value.run (F := Ideal) m' ρ')

end Cert.AllToAll

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

/-- All claims, with the side conditions that the programs state. -/
theorem claim : Cert.Claim := ⟨Cert.Kernel.Gen.facts, Cert.KernelIdeal.Gen.facts, Cert.ReferenceIdeal.Gen.facts,
  Cert.AllToAll.frame_kernel, Cert.AllToAll.frame_ideal, Cert.AllToAll.frame_reference, trivial, Cert.AllToAll.algebraic⟩

end Cert.Proof

end
